-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v613) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S4x224x224x96 : Shape := ⟨4, ![4, 224, 224, 96]⟩
abbrev S8x96 : Shape := ⟨2, ![8, 96]⟩
abbrev S3x3x96 : Shape := ⟨3, ![3, 3, 96]⟩
abbrev S_ : Shape := ⟨0, ![]⟩

class Facts : Prop where
  bcast_S_S4x224x224x96 : S_.BroadcastsInDim S4x224x224x96 (![] : Fin 0 → Fin S4x224x224x96.rank)
  reducesTo_S4x224x224x96_S_d0_1_2_3 : S4x224x224x96.ReducesTo [0, 1, 2, 3] S_
  h_S_ : 0 < S_.numel

variable [Facts]

def fn {F : FTy → Type} [FloatOps F] (main_arg0 : FVec F S4x224x224x96 .f32) (main_arg1 : FVec F S8x96 .f32) (main_arg2 : FVec F S3x3x96 .f32) : IVec S_ 1 :=
  let main_v0 : FVec F S4x224x224x96 .f32 := Host.absf main_arg0
  let main_cst : FVec F S_ .f32 := constant S_ .f32 0x7F800000#32
  let main_v1 : FVec F S4x224x224x96 .f32 := broadcastInDim S4x224x224x96 ![] bcast_S_S4x224x224x96 main_cst
  let main_v2 : IVec S4x224x224x96 1 := cmpf .olt main_v0 main_v1
  let main_c : IVec S_ 1 := constantI S_ 1 1#1
  let main_v3 : IVec S_ 1 := (fun x v => Host.reduce IntOp.andi x v reducesTo_S4x224x224x96_S_d0_1_2_3 h_S_) main_v2 main_c
  main_v3
-- ==== Kernel.lean ====
abbrev S4x224x224x96 : Shape := ⟨4, ![4, 224, 224, 96]⟩
abbrev S8x96 : Shape := ⟨2, ![8, 96]⟩
abbrev S3x3x96 : Shape := ⟨3, ![3, 3, 96]⟩
abbrev S1x28x224x96 : Shape := ⟨4, ![1, 28, 224, 96]⟩
abbrev S1x1x224x96 : Shape := ⟨4, ![1, 1, 224, 96]⟩
abbrev S420x224x96 : Shape := ⟨3, ![420, 224, 96]⟩
abbrev S4x226x96 : Shape := ⟨3, ![4, 226, 96]⟩
abbrev S2 : Shape := ⟨1, ![2]⟩
abbrev S28x224x96 : Shape := ⟨3, ![28, 224, 96]⟩
abbrev S1 : Shape := ⟨1, ![1]⟩
abbrev S1x1x1x1 : Shape := ⟨4, ![1, 1, 1, 1]⟩
abbrev S1x96 : Shape := ⟨2, ![1, 96]⟩
abbrev S224x96 : Shape := ⟨2, ![224, 96]⟩
abbrev S96 : Shape := ⟨1, ![96]⟩
abbrev S226x96 : Shape := ⟨2, ![226, 96]⟩
abbrev S1x226x96 : Shape := ⟨3, ![1, 226, 96]⟩
abbrev S1x224x96 : Shape := ⟨3, ![1, 224, 96]⟩
abbrev S1x1x96 : Shape := ⟨3, ![1, 1, 96]⟩

abbrev nBuf : Space → Nat
  | .hbm => 4
  | .vmem => 12
  | .smem => 1
  | _ => 0

abbrev bufTy : (tb : Table) → Fin (tcTables nBuf tb) → BufTy
  | .hbm, ⟨0, _⟩ => ⟨S4x224x224x96, .f32⟩
  | .hbm, ⟨1, _⟩ => ⟨S8x96, .f32⟩
  | .hbm, ⟨2, _⟩ => ⟨S3x3x96, .f32⟩
  | .hbm, ⟨3, _⟩ => ⟨S4x224x224x96, .f32⟩
  | .local _ .vmem, ⟨0, _⟩ => ⟨S1x28x224x96, .f32⟩
  | .local _ .vmem, ⟨1, _⟩ => ⟨S1x28x224x96, .f32⟩
  | .local _ .vmem, ⟨2, _⟩ => ⟨S1x1x224x96, .f32⟩
  | .local _ .vmem, ⟨3, _⟩ => ⟨S1x1x224x96, .f32⟩
  | .local _ .vmem, ⟨4, _⟩ => ⟨S1x1x224x96, .f32⟩
  | .local _ .vmem, ⟨5, _⟩ => ⟨S1x1x224x96, .f32⟩
  | .local _ .vmem, ⟨6, _⟩ => ⟨S8x96, .f32⟩
  | .local _ .vmem, ⟨7, _⟩ => ⟨S3x3x96, .f32⟩
  | .local _ .vmem, ⟨8, _⟩ => ⟨S1x28x224x96, .f32⟩
  | .local _ .vmem, ⟨9, _⟩ => ⟨S1x28x224x96, .f32⟩
  | .local _ .vmem, ⟨10, _⟩ => ⟨S420x224x96, .f32⟩
  | .local _ .vmem, ⟨11, _⟩ => ⟨S4x226x96, .f32⟩
  | .local _ .smem, ⟨0, _⟩ => ⟨S2, .f32⟩
  | _, _ => ⟨S4x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let c15_i32_13 : BitVec 32 := 15#32
  let v33 : BitVec 1 := Scalar.cmpi .slt v1 c15_i32_13
  let v34 : BitVec 32 := Scalar.extui v33
  let c0_i32_14 : BitVec 32 := 0#32
  let v35 : BitVec 1 := Scalar.cmpi .ne v34 c0_i32_14
  v35

def k0_off1 (i : grid0.Coords) : Fin 3 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let c28_i32 : BitVec 32 := 28#32
  let v36 : BitVec 32 := Scalar.muli v1 c28_i32
  let v37 : Index := Scalar.indexCast v36
  let c0_15 : Index := 0#32
  let c0_16 : Index := 0#32
  ![v37.toNat, 0, 0]
def k0_cond5 (i : grid0.Coords) : BitVec 1 :=
  let arg0 : BitVec 32 := BitVec.ofNat 32 (i 0).val
  let c1_i32 : BitVec 32 := 1#32
  let v5 : BitVec 1 := Scalar.cmpi .eq arg0 c1_i32
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let c15_i32 : BitVec 32 := 15#32
  let v6 : BitVec 1 := Scalar.cmpi .slt v1 c15_i32
  let v7 : BitVec 1 := Scalar.andi v5 v6
  let v8 : BitVec 32 := Scalar.extui v7
  let c0_i32_1 : BitVec 32 := 0#32
  let v9 : BitVec 1 := Scalar.cmpi .ne v8 c0_i32_1
  v9

def k0_off2 (i : grid0.Coords) (c0_i32_26 : BitVec 32) : Fin 3 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let c28_i32 : BitVec 32 := 28#32
  let v100 : BitVec 32 := Scalar.muli v1 c28_i32
  let v101 : BitVec 32 := Scalar.addi v100 c0_i32_26
  let v102 : Index := Scalar.indexCast v101
  let c0_27 : Index := 0#32
  let c0_28 : Index := 0#32
  ![v102.toNat, 0, 0]
def k0_cond6 (i : grid0.Coords) : BitVec 1 :=
  let arg0 : BitVec 32 := BitVec.ofNat 32 (i 0).val
  let c1_i32_2 : BitVec 32 := 1#32
  let v10 : BitVec 1 := Scalar.cmpi .eq arg0 c1_i32_2
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let c15_i32_3 : BitVec 32 := 15#32
  let v11 : BitVec 1 := Scalar.cmpi .sge v1 c15_i32_3
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c8_i32 : BitVec 32 := 8#32
  let v1 : BitVec 32 := Scalar.muli arg1 c8_i32
  let v2 : BitVec 32 := Scalar.addi v1 arg2
  let c15_i32 : BitVec 32 := 15#32
  let v3 : BitVec 1 := Scalar.cmpi .slt v2 c15_i32
  let v4 : BitVec 1 := Scalar.andi v0 v3
  let c3_i32 : BitVec 32 := 3#32
  let v5 : BitVec 32 := Scalar.select v4 c3_i32 arg1
  let c7_i32 : BitVec 32 := 7#32
  let v6 : BitVec 32 := Scalar.select v4 c7_i32 arg2
  let c0_i32 : BitVec 32 := 0#32
  let c0_i32_0 : BitVec 32 := 0#32
  let c0_i32_1 : BitVec 32 := 0#32
  ![v5.toNat, v6.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c28_i32 : BitVec 32 := 28#32
  let v3 : BitVec 32 := Scalar.muli arg2 c28_i32
  let c1_i32_1 : BitVec 32 := 1#32
  let v4 : BitVec 32 := Scalar.subi v3 c1_i32_1
  let c0_i32_2 : BitVec 32 := 0#32
  let v5 : BitVec 32 := Scalar.maxsi v4 c0_i32_2
  let c0_i32_3 : BitVec 32 := 0#32
  let v6 : BitVec 32 := Scalar.select v2 v5 c0_i32_3
  let c0_i32_4 : BitVec 32 := 0#32
  let c0_i32_5 : BitVec 32 := 0#32
  let c0_i32_6 : BitVec 32 := 0#32
  ![v1.toNat, v6.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c1_i32_1 : BitVec 32 := 1#32
  let v3 : BitVec 32 := Scalar.addi arg2 c1_i32_1
  let c28_i32 : BitVec 32 := 28#32
  let v4 : BitVec 32 := Scalar.muli v3 c28_i32
  let c223_i32 : BitVec 32 := 223#32
  let v5 : BitVec 32 := Scalar.minsi v4 c223_i32
  let c0_i32_2 : BitVec 32 := 0#32
  let v6 : BitVec 32 := Scalar.select v2 v5 c0_i32_2
  let c0_i32_3 : BitVec 32 := 0#32
  let c0_i32_4 : BitVec 32 := 0#32
  let c0_i32_5 : BitVec 32 := 0#32
  ![v1.toNat, v6.toNat, c0_i32_3.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, v3.toNat, c0_i32_2.toNat, c0_i32_3.toNat]

abbrev stage0_0 : Fin 2 → Memref sig .tc .vmem S1x28x224x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x224x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x224x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S3x3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x28x224x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x224x224x96 : Shape := ⟨4, ![4, 224, 224, 96]⟩
abbrev S8x96 : Shape := ⟨2, ![8, 96]⟩
abbrev S3x3x96 : Shape := ⟨3, ![3, 3, 96]⟩
abbrev S_ : Shape := ⟨0, ![]⟩
abbrev S1x96 : Shape := ⟨2, ![1, 96]⟩
abbrev S96 : Shape := ⟨1, ![96]⟩
abbrev S1x1x1x96 : Shape := ⟨4, ![1, 1, 1, 96]⟩
abbrev S4x226x226x96 : Shape := ⟨4, ![4, 226, 226, 96]⟩
abbrev S1x1x96 : Shape := ⟨3, ![1, 1, 96]⟩

abbrev nBuf : Space → Nat
  | .hbm => 661
  | .vmem => 0
  | .smem => 0
  | _ => 0

abbrev hbmTy0_0 (i : Nat) : BufTy := match i % 128 with
  | 0 => ⟨S4x224x224x96, .f32⟩
  | 1 => ⟨S8x96, .f32⟩
  | 2 => ⟨S3x3x96, .f32⟩
  | 3 => ⟨S_, .f32⟩
  | 4 => ⟨S_, .f32⟩
  | 5 => ⟨S_, .f32⟩
  | 6 => ⟨S_, .f32⟩
  | 7 => ⟨S4x224x224x96, .f32⟩
  | 8 => ⟨S4x224x224x96, .f32⟩
  | 9 => ⟨S_, .f32⟩
  | 10 => ⟨S_, .f32⟩
  | 11 => ⟨S_, .f32⟩
  | 12 => ⟨S4x224x224x96, .f32⟩
  | 13 => ⟨S4x224x224x96, .f32⟩
  | 14 => ⟨S_, .f32⟩
  | 15 => ⟨S4x224x224x96, .f32⟩
  | 16 => ⟨S4x224x224x96, .f32⟩
  | 17 => ⟨S4x224x224x96, .f32⟩
  | 18 => ⟨S_, .i32⟩
  | 19 => ⟨S_, .i32⟩
  | 20 => ⟨S_, .f32⟩
  | 21 => ⟨S4x224x224x96, .f32⟩
  | 22 => ⟨S4x224x224x96, .f32⟩
  | 23 => ⟨S_, .f32⟩
  | 24 => ⟨S4x224x224x96, .f32⟩
  | 25 => ⟨S4x224x224x96, .f32⟩
  | 26 => ⟨S4x224x224x96, .i32⟩
  | 27 => ⟨S_, .f32⟩
  | 28 => ⟨S4x224x224x96, .f32⟩
  | 29 => ⟨S_, .i32⟩
  | 30 => ⟨S4x224x224x96, .i32⟩
  | 31 => ⟨S4x224x224x96, .i1⟩
  | 32 => ⟨S4x224x224x96, .f32⟩
  | 33 => ⟨S4x224x224x96, .f32⟩
  | 34 => ⟨S1x96, .f32⟩
  | 35 => ⟨S96, .f32⟩
  | 36 => ⟨S1x1x1x96, .f32⟩
  | 37 => ⟨S4x224x224x96, .f32⟩
  | 38 => ⟨S4x224x224x96, .f32⟩
  | 39 => ⟨S_, .i32⟩
  | 40 => ⟨S_, .f32⟩
  | 41 => ⟨S4x226x226x96, .f32⟩
  | 42 => ⟨S_, .f32⟩
  | 43 => ⟨S4x224x224x96, .f32⟩
  | 44 => ⟨S4x224x224x96, .f32⟩
  | 45 => ⟨S1x1x96, .f32⟩
  | 46 => ⟨S96, .f32⟩
  | 47 => ⟨S1x1x1x96, .f32⟩
  | 48 => ⟨S4x224x224x96, .f32⟩
  | 49 => ⟨S4x224x224x96, .f32⟩
  | 50 => ⟨S4x224x224x96, .f32⟩
  | 51 => ⟨S4x224x224x96, .f32⟩
  | 52 => ⟨S1x1x96, .f32⟩
  | 53 => ⟨S96, .f32⟩
  | 54 => ⟨S1x1x1x96, .f32⟩
  | 55 => ⟨S4x224x224x96, .f32⟩
  | 56 => ⟨S4x224x224x96, .f32⟩
  | 57 => ⟨S4x224x224x96, .f32⟩
  | 58 => ⟨S4x224x224x96, .f32⟩
  | 59 => ⟨S1x1x96, .f32⟩
  | 60 => ⟨S96, .f32⟩
  | 61 => ⟨S1x1x1x96, .f32⟩
  | 62 => ⟨S4x224x224x96, .f32⟩
  | 63 => ⟨S4x224x224x96, .f32⟩
  | 64 => ⟨S4x224x224x96, .f32⟩
  | 65 => ⟨S4x224x224x96, .f32⟩
  | 66 => ⟨S1x1x96, .f32⟩
  | 67 => ⟨S96, .f32⟩
  | 68 => ⟨S1x1x1x96, .f32⟩
  | 69 => ⟨S4x224x224x96, .f32⟩
  | 70 => ⟨S4x224x224x96, .f32⟩
  | 71 => ⟨S4x224x224x96, .f32⟩
  | 72 => ⟨S4x224x224x96, .f32⟩
  | 73 => ⟨S1x1x96, .f32⟩
  | 74 => ⟨S96, .f32⟩
  | 75 => ⟨S1x1x1x96, .f32⟩
  | 76 => ⟨S4x224x224x96, .f32⟩
  | 77 => ⟨S4x224x224x96, .f32⟩
  | 78 => ⟨S4x224x224x96, .f32⟩
  | 79 => ⟨S4x224x224x96, .f32⟩
  | 80 => ⟨S1x1x96, .f32⟩
  | 81 => ⟨S96, .f32⟩
  | 82 => ⟨S1x1x1x96, .f32⟩
  | 83 => ⟨S4x224x224x96, .f32⟩
  | 84 => ⟨S4x224x224x96, .f32⟩
  | 85 => ⟨S4x224x224x96, .f32⟩
  | 86 => ⟨S4x224x224x96, .f32⟩
  | 87 => ⟨S1x1x96, .f32⟩
  | 88 => ⟨S96, .f32⟩
  | 89 => ⟨S1x1x1x96, .f32⟩
  | 90 => ⟨S4x224x224x96, .f32⟩
  | 91 => ⟨S4x224x224x96, .f32⟩
  | 92 => ⟨S4x224x224x96, .f32⟩
  | 93 => ⟨S4x224x224x96, .f32⟩
  | 94 => ⟨S1x1x96, .f32⟩
  | 95 => ⟨S96, .f32⟩
  | 96 => ⟨S1x1x1x96, .f32⟩
  | 97 => ⟨S4x224x224x96, .f32⟩
  | 98 => ⟨S4x224x224x96, .f32⟩
  | 99 => ⟨S4x224x224x96, .f32⟩
  | 100 => ⟨S4x224x224x96, .f32⟩
  | 101 => ⟨S1x1x96, .f32⟩
  | 102 => ⟨S96, .f32⟩
  | 103 => ⟨S1x1x1x96, .f32⟩
  | 104 => ⟨S4x224x224x96, .f32⟩
  | 105 => ⟨S4x224x224x96, .f32⟩
  | 106 => ⟨S4x224x224x96, .f32⟩
  | 107 => ⟨S4x224x224x96, .f32⟩
  | 108 => ⟨S_, .i32⟩
  | 109 => ⟨S4x224x224x96, .i32⟩
  | 110 => ⟨S4x224x224x96, .i1⟩
  | 111 => ⟨S4x224x224x96, .f32⟩
  | 112 => ⟨S4x224x224x96, .f32⟩
  | 113 => ⟨S1x96, .f32⟩
  | 114 => ⟨S96, .f32⟩
  | 115 => ⟨S1x1x1x96, .f32⟩
  | 116 => ⟨S4x224x224x96, .f32⟩
  | 117 => ⟨S4x224x224x96, .f32⟩
  | 118 => ⟨S_, .i32⟩
  | 119 => ⟨S_, .f32⟩
  | 120 => ⟨S4x226x226x96, .f32⟩
  | 121 => ⟨S_, .f32⟩
  | 122 => ⟨S4x224x224x96, .f32⟩
  | 123 => ⟨S4x224x224x96, .f32⟩
  | 124 => ⟨S1x1x96, .f32⟩
  | 125 => ⟨S96, .f32⟩
  | 126 => ⟨S1x1x1x96, .f32⟩
  | 127 => ⟨S4x224x224x96, .f32⟩
  | _ => ⟨S4x224x224x96, .f32⟩

abbrev hbmTy0_1 (i : Nat) : BufTy := match i % 128 with
  | 0 => ⟨S4x224x224x96, .f32⟩
  | 1 => ⟨S4x224x224x96, .f32⟩
  | 2 => ⟨S4x224x224x96, .f32⟩
  | 3 => ⟨S1x1x96, .f32⟩
  | 4 => ⟨S96, .f32⟩
  | 5 => ⟨S1x1x1x96, .f32⟩
  | 6 => ⟨S4x224x224x96, .f32⟩
  | 7 => ⟨S4x224x224x96, .f32⟩
  | 8 => ⟨S4x224x224x96, .f32⟩
  | 9 => ⟨S4x224x224x96, .f32⟩
  | 10 => ⟨S1x1x96, .f32⟩
  | 11 => ⟨S96, .f32⟩
  | 12 => ⟨S1x1x1x96, .f32⟩
  | 13 => ⟨S4x224x224x96, .f32⟩
  | 14 => ⟨S4x224x224x96, .f32⟩
  | 15 => ⟨S4x224x224x96, .f32⟩
  | 16 => ⟨S4x224x224x96, .f32⟩
  | 17 => ⟨S1x1x96, .f32⟩
  | 18 => ⟨S96, .f32⟩
  | 19 => ⟨S1x1x1x96, .f32⟩
  | 20 => ⟨S4x224x224x96, .f32⟩
  | 21 => ⟨S4x224x224x96, .f32⟩
  | 22 => ⟨S4x224x224x96, .f32⟩
  | 23 => ⟨S4x224x224x96, .f32⟩
  | 24 => ⟨S1x1x96, .f32⟩
  | 25 => ⟨S96, .f32⟩
  | 26 => ⟨S1x1x1x96, .f32⟩
  | 27 => ⟨S4x224x224x96, .f32⟩
  | 28 => ⟨S4x224x224x96, .f32⟩
  | 29 => ⟨S4x224x224x96, .f32⟩
  | 30 => ⟨S4x224x224x96, .f32⟩
  | 31 => ⟨S1x1x96, .f32⟩
  | 32 => ⟨S96, .f32⟩
  | 33 => ⟨S1x1x1x96, .f32⟩
  | 34 => ⟨S4x224x224x96, .f32⟩
  | 35 => ⟨S4x224x224x96, .f32⟩
  | 36 => ⟨S4x224x224x96, .f32⟩
  | 37 => ⟨S4x224x224x96, .f32⟩
  | 38 => ⟨S1x1x96, .f32⟩
  | 39 => ⟨S96, .f32⟩
  | 40 => ⟨S1x1x1x96, .f32⟩
  | 41 => ⟨S4x224x224x96, .f32⟩
  | 42 => ⟨S4x224x224x96, .f32⟩
  | 43 => ⟨S4x224x224x96, .f32⟩
  | 44 => ⟨S4x224x224x96, .f32⟩
  | 45 => ⟨S1x1x96, .f32⟩
  | 46 => ⟨S96, .f32⟩
  | 47 => ⟨S1x1x1x96, .f32⟩
  | 48 => ⟨S4x224x224x96, .f32⟩
  | 49 => ⟨S4x224x224x96, .f32⟩
  | 50 => ⟨S4x224x224x96, .f32⟩
  | 51 => ⟨S4x224x224x96, .f32⟩
  | 52 => ⟨S1x1x96, .f32⟩
  | 53 => ⟨S96, .f32⟩
  | 54 => ⟨S1x1x1x96, .f32⟩
  | 55 => ⟨S4x224x224x96, .f32⟩
  | 56 => ⟨S4x224x224x96, .f32⟩
  | 57 => ⟨S4x224x224x96, .f32⟩
  | 58 => ⟨S4x224x224x96, .f32⟩
  | 59 => ⟨S_, .i32⟩
  | 60 => ⟨S4x224x224x96, .i32⟩
  | 61 => ⟨S4x224x224x96, .i1⟩
  | 62 => ⟨S4x224x224x96, .f32⟩
  | 63 => ⟨S4x224x224x96, .f32⟩
  | 64 => ⟨S1x96, .f32⟩
  | 65 => ⟨S96, .f32⟩
  | 66 => ⟨S1x1x1x96, .f32⟩
  | 67 => ⟨S4x224x224x96, .f32⟩
  | 68 => ⟨S4x224x224x96, .f32⟩
  | 69 => ⟨S_, .i32⟩
  | 70 => ⟨S_, .f32⟩
  | 71 => ⟨S4x226x226x96, .f32⟩
  | 72 => ⟨S_, .f32⟩
  | 73 => ⟨S4x224x224x96, .f32⟩
  | 74 => ⟨S4x224x224x96, .f32⟩
  | 75 => ⟨S1x1x96, .f32⟩
  | 76 => ⟨S96, .f32⟩
  | 77 => ⟨S1x1x1x96, .f32⟩
  | 78 => ⟨S4x224x224x96, .f32⟩
  | 79 => ⟨S4x224x224x96, .f32⟩
  | 80 => ⟨S4x224x224x96, .f32⟩
  | 81 => ⟨S4x224x224x96, .f32⟩
  | 82 => ⟨S1x1x96, .f32⟩
  | 83 => ⟨S96, .f32⟩
  | 84 => ⟨S1x1x1x96, .f32⟩
  | 85 => ⟨S4x224x224x96, .f32⟩
  | 86 => ⟨S4x224x224x96, .f32⟩
  | 87 => ⟨S4x224x224x96, .f32⟩
  | 88 => ⟨S4x224x224x96, .f32⟩
  | 89 => ⟨S1x1x96, .f32⟩
  | 90 => ⟨S96, .f32⟩
  | 91 => ⟨S1x1x1x96, .f32⟩
  | 92 => ⟨S4x224x224x96, .f32⟩
  | 93 => ⟨S4x224x224x96, .f32⟩
  | 94 => ⟨S4x224x224x96, .f32⟩
  | 95 => ⟨S4x224x224x96, .f32⟩
  | 96 => ⟨S1x1x96, .f32⟩
  | 97 => ⟨S96, .f32⟩
  | 98 => ⟨S1x1x1x96, .f32⟩
  | 99 => ⟨S4x224x224x96, .f32⟩
  | 100 => ⟨S4x224x224x96, .f32⟩
  | 101 => ⟨S4x224x224x96, .f32⟩
  | 102 => ⟨S4x224x224x96, .f32⟩
  | 103 => ⟨S1x1x96, .f32⟩
  | 104 => ⟨S96, .f32⟩
  | 105 => ⟨S1x1x1x96, .f32⟩
  | 106 => ⟨S4x224x224x96, .f32⟩
  | 107 => ⟨S4x224x224x96, .f32⟩
  | 108 => ⟨S4x224x224x96, .f32⟩
  | 109 => ⟨S4x224x224x96, .f32⟩
  | 110 => ⟨S1x1x96, .f32⟩
  | 111 => ⟨S96, .f32⟩
  | 112 => ⟨S1x1x1x96, .f32⟩
  | 113 => ⟨S4x224x224x96, .f32⟩
  | 114 => ⟨S4x224x224x96, .f32⟩
  | 115 => ⟨S4x224x224x96, .f32⟩
  | 116 => ⟨S4x224x224x96, .f32⟩
  | 117 => ⟨S1x1x96, .f32⟩
  | 118 => ⟨S96, .f32⟩
  | 119 => ⟨S1x1x1x96, .f32⟩
  | 120 => ⟨S4x224x224x96, .f32⟩
  | 121 => ⟨S4x224x224x96, .f32⟩
  | 122 => ⟨S4x224x224x96, .f32⟩
  | 123 => ⟨S4x224x224x96, .f32⟩
  | 124 => ⟨S1x1x96, .f32⟩
  | 125 => ⟨S96, .f32⟩
  | 126 => ⟨S1x1x1x96, .f32⟩
  | 127 => ⟨S4x224x224x96, .f32⟩
  | _ => ⟨S4x224x224x96, .f32⟩

abbrev hbmTy0_2 (i : Nat) : BufTy := match i % 128 with
  | 0 => ⟨S4x224x224x96, .f32⟩
  | 1 => ⟨S4x224x224x96, .f32⟩
  | 2 => ⟨S4x224x224x96, .f32⟩
  | 3 => ⟨S1x1x96, .f32⟩
  | 4 => ⟨S96, .f32⟩
  | 5 => ⟨S1x1x1x96, .f32⟩
  | 6 => ⟨S4x224x224x96, .f32⟩
  | 7 => ⟨S4x224x224x96, .f32⟩
  | 8 => ⟨S4x224x224x96, .f32⟩
  | 9 => ⟨S4x224x224x96, .f32⟩
  | 10 => ⟨S_, .i32⟩
  | 11 => ⟨S4x224x224x96, .i32⟩
  | 12 => ⟨S4x224x224x96, .i1⟩
  | 13 => ⟨S4x224x224x96, .f32⟩
  | 14 => ⟨S4x224x224x96, .f32⟩
  | 15 => ⟨S1x96, .f32⟩
  | 16 => ⟨S96, .f32⟩
  | 17 => ⟨S1x1x1x96, .f32⟩
  | 18 => ⟨S4x224x224x96, .f32⟩
  | 19 => ⟨S4x224x224x96, .f32⟩
  | 20 => ⟨S_, .i32⟩
  | 21 => ⟨S_, .f32⟩
  | 22 => ⟨S4x226x226x96, .f32⟩
  | 23 => ⟨S_, .f32⟩
  | 24 => ⟨S4x224x224x96, .f32⟩
  | 25 => ⟨S4x224x224x96, .f32⟩
  | 26 => ⟨S1x1x96, .f32⟩
  | 27 => ⟨S96, .f32⟩
  | 28 => ⟨S1x1x1x96, .f32⟩
  | 29 => ⟨S4x224x224x96, .f32⟩
  | 30 => ⟨S4x224x224x96, .f32⟩
  | 31 => ⟨S4x224x224x96, .f32⟩
  | 32 => ⟨S4x224x224x96, .f32⟩
  | 33 => ⟨S1x1x96, .f32⟩
  | 34 => ⟨S96, .f32⟩
  | 35 => ⟨S1x1x1x96, .f32⟩
  | 36 => ⟨S4x224x224x96, .f32⟩
  | 37 => ⟨S4x224x224x96, .f32⟩
  | 38 => ⟨S4x224x224x96, .f32⟩
  | 39 => ⟨S4x224x224x96, .f32⟩
  | 40 => ⟨S1x1x96, .f32⟩
  | 41 => ⟨S96, .f32⟩
  | 42 => ⟨S1x1x1x96, .f32⟩
  | 43 => ⟨S4x224x224x96, .f32⟩
  | 44 => ⟨S4x224x224x96, .f32⟩
  | 45 => ⟨S4x224x224x96, .f32⟩
  | 46 => ⟨S4x224x224x96, .f32⟩
  | 47 => ⟨S1x1x96, .f32⟩
  | 48 => ⟨S96, .f32⟩
  | 49 => ⟨S1x1x1x96, .f32⟩
  | 50 => ⟨S4x224x224x96, .f32⟩
  | 51 => ⟨S4x224x224x96, .f32⟩
  | 52 => ⟨S4x224x224x96, .f32⟩
  | 53 => ⟨S4x224x224x96, .f32⟩
  | 54 => ⟨S1x1x96, .f32⟩
  | 55 => ⟨S96, .f32⟩
  | 56 => ⟨S1x1x1x96, .f32⟩
  | 57 => ⟨S4x224x224x96, .f32⟩
  | 58 => ⟨S4x224x224x96, .f32⟩
  | 59 => ⟨S4x224x224x96, .f32⟩
  | 60 => ⟨S4x224x224x96, .f32⟩
  | 61 => ⟨S1x1x96, .f32⟩
  | 62 => ⟨S96, .f32⟩
  | 63 => ⟨S1x1x1x96, .f32⟩
  | 64 => ⟨S4x224x224x96, .f32⟩
  | 65 => ⟨S4x224x224x96, .f32⟩
  | 66 => ⟨S4x224x224x96, .f32⟩
  | 67 => ⟨S4x224x224x96, .f32⟩
  | 68 => ⟨S1x1x96, .f32⟩
  | 69 => ⟨S96, .f32⟩
  | 70 => ⟨S1x1x1x96, .f32⟩
  | 71 => ⟨S4x224x224x96, .f32⟩
  | 72 => ⟨S4x224x224x96, .f32⟩
  | 73 => ⟨S4x224x224x96, .f32⟩
  | 74 => ⟨S4x224x224x96, .f32⟩
  | 75 => ⟨S1x1x96, .f32⟩
  | 76 => ⟨S96, .f32⟩
  | 77 => ⟨S1x1x1x96, .f32⟩
  | 78 => ⟨S4x224x224x96, .f32⟩
  | 79 => ⟨S4x224x224x96, .f32⟩
  | 80 => ⟨S4x224x224x96, .f32⟩
  | 81 => ⟨S4x224x224x96, .f32⟩
  | 82 => ⟨S1x1x96, .f32⟩
  | 83 => ⟨S96, .f32⟩
  | 84 => ⟨S1x1x1x96, .f32⟩
  | 85 => ⟨S4x224x224x96, .f32⟩
  | 86 => ⟨S4x224x224x96, .f32⟩
  | 87 => ⟨S4x224x224x96, .f32⟩
  | 88 => ⟨S4x224x224x96, .f32⟩
  | 89 => ⟨S_, .i32⟩
  | 90 => ⟨S4x224x224x96, .i32⟩
  | 91 => ⟨S4x224x224x96, .i1⟩
  | 92 => ⟨S4x224x224x96, .f32⟩
  | 93 => ⟨S4x224x224x96, .f32⟩
  | 94 => ⟨S1x96, .f32⟩
  | 95 => ⟨S96, .f32⟩
  | 96 => ⟨S1x1x1x96, .f32⟩
  | 97 => ⟨S4x224x224x96, .f32⟩
  | 98 => ⟨S4x224x224x96, .f32⟩
  | 99 => ⟨S_, .i32⟩
  | 100 => ⟨S_, .f32⟩
  | 101 => ⟨S4x226x226x96, .f32⟩
  | 102 => ⟨S_, .f32⟩
  | 103 => ⟨S4x224x224x96, .f32⟩
  | 104 => ⟨S4x224x224x96, .f32⟩
  | 105 => ⟨S1x1x96, .f32⟩
  | 106 => ⟨S96, .f32⟩
  | 107 => ⟨S1x1x1x96, .f32⟩
  | 108 => ⟨S4x224x224x96, .f32⟩
  | 109 => ⟨S4x224x224x96, .f32⟩
  | 110 => ⟨S4x224x224x96, .f32⟩
  | 111 => ⟨S4x224x224x96, .f32⟩
  | 112 => ⟨S1x1x96, .f32⟩
  | 113 => ⟨S96, .f32⟩
  | 114 => ⟨S1x1x1x96, .f32⟩
  | 115 => ⟨S4x224x224x96, .f32⟩
  | 116 => ⟨S4x224x224x96, .f32⟩
  | 117 => ⟨S4x224x224x96, .f32⟩
  | 118 => ⟨S4x224x224x96, .f32⟩
  | 119 => ⟨S1x1x96, .f32⟩
  | 120 => ⟨S96, .f32⟩
  | 121 => ⟨S1x1x1x96, .f32⟩
  | 122 => ⟨S4x224x224x96, .f32⟩
  | 123 => ⟨S4x224x224x96, .f32⟩
  | 124 => ⟨S4x224x224x96, .f32⟩
  | 125 => ⟨S4x224x224x96, .f32⟩
  | 126 => ⟨S1x1x96, .f32⟩
  | 127 => ⟨S96, .f32⟩
  | _ => ⟨S4x224x224x96, .f32⟩

abbrev hbmTy0_3 (i : Nat) : BufTy := match i % 128 with
  | 0 => ⟨S1x1x1x96, .f32⟩
  | 1 => ⟨S4x224x224x96, .f32⟩
  | 2 => ⟨S4x224x224x96, .f32⟩
  | 3 => ⟨S4x224x224x96, .f32⟩
  | 4 => ⟨S4x224x224x96, .f32⟩
  | 5 => ⟨S1x1x96, .f32⟩
  | 6 => ⟨S96, .f32⟩
  | 7 => ⟨S1x1x1x96, .f32⟩
  | 8 => ⟨S4x224x224x96, .f32⟩
  | 9 => ⟨S4x224x224x96, .f32⟩
  | 10 => ⟨S4x224x224x96, .f32⟩
  | 11 => ⟨S4x224x224x96, .f32⟩
  | 12 => ⟨S1x1x96, .f32⟩
  | 13 => ⟨S96, .f32⟩
  | 14 => ⟨S1x1x1x96, .f32⟩
  | 15 => ⟨S4x224x224x96, .f32⟩
  | 16 => ⟨S4x224x224x96, .f32⟩
  | 17 => ⟨S4x224x224x96, .f32⟩
  | 18 => ⟨S4x224x224x96, .f32⟩
  | 19 => ⟨S1x1x96, .f32⟩
  | 20 => ⟨S96, .f32⟩
  | 21 => ⟨S1x1x1x96, .f32⟩
  | 22 => ⟨S4x224x224x96, .f32⟩
  | 23 => ⟨S4x224x224x96, .f32⟩
  | 24 => ⟨S4x224x224x96, .f32⟩
  | 25 => ⟨S4x224x224x96, .f32⟩
  | 26 => ⟨S1x1x96, .f32⟩
  | 27 => ⟨S96, .f32⟩
  | 28 => ⟨S1x1x1x96, .f32⟩
  | 29 => ⟨S4x224x224x96, .f32⟩
  | 30 => ⟨S4x224x224x96, .f32⟩
  | 31 => ⟨S4x224x224x96, .f32⟩
  | 32 => ⟨S4x224x224x96, .f32⟩
  | 33 => ⟨S1x1x96, .f32⟩
  | 34 => ⟨S96, .f32⟩
  | 35 => ⟨S1x1x1x96, .f32⟩
  | 36 => ⟨S4x224x224x96, .f32⟩
  | 37 => ⟨S4x224x224x96, .f32⟩
  | 38 => ⟨S4x224x224x96, .f32⟩
  | 39 => ⟨S4x224x224x96, .f32⟩
  | 40 => ⟨S_, .i32⟩
  | 41 => ⟨S4x224x224x96, .i32⟩
  | 42 => ⟨S4x224x224x96, .i1⟩
  | 43 => ⟨S4x224x224x96, .f32⟩
  | 44 => ⟨S4x224x224x96, .f32⟩
  | 45 => ⟨S1x96, .f32⟩
  | 46 => ⟨S96, .f32⟩
  | 47 => ⟨S1x1x1x96, .f32⟩
  | 48 => ⟨S4x224x224x96, .f32⟩
  | 49 => ⟨S4x224x224x96, .f32⟩
  | 50 => ⟨S_, .i32⟩
  | 51 => ⟨S_, .f32⟩
  | 52 => ⟨S4x226x226x96, .f32⟩
  | 53 => ⟨S_, .f32⟩
  | 54 => ⟨S4x224x224x96, .f32⟩
  | 55 => ⟨S4x224x224x96, .f32⟩
  | 56 => ⟨S1x1x96, .f32⟩
  | 57 => ⟨S96, .f32⟩
  | 58 => ⟨S1x1x1x96, .f32⟩
  | 59 => ⟨S4x224x224x96, .f32⟩
  | 60 => ⟨S4x224x224x96, .f32⟩
  | 61 => ⟨S4x224x224x96, .f32⟩
  | 62 => ⟨S4x224x224x96, .f32⟩
  | 63 => ⟨S1x1x96, .f32⟩
  | 64 => ⟨S96, .f32⟩
  | 65 => ⟨S1x1x1x96, .f32⟩
  | 66 => ⟨S4x224x224x96, .f32⟩
  | 67 => ⟨S4x224x224x96, .f32⟩
  | 68 => ⟨S4x224x224x96, .f32⟩
  | 69 => ⟨S4x224x224x96, .f32⟩
  | 70 => ⟨S1x1x96, .f32⟩
  | 71 => ⟨S96, .f32⟩
  | 72 => ⟨S1x1x1x96, .f32⟩
  | 73 => ⟨S4x224x224x96, .f32⟩
  | 74 => ⟨S4x224x224x96, .f32⟩
  | 75 => ⟨S4x224x224x96, .f32⟩
  | 76 => ⟨S4x224x224x96, .f32⟩
  | 77 => ⟨S1x1x96, .f32⟩
  | 78 => ⟨S96, .f32⟩
  | 79 => ⟨S1x1x1x96, .f32⟩
  | 80 => ⟨S4x224x224x96, .f32⟩
  | 81 => ⟨S4x224x224x96, .f32⟩
  | 82 => ⟨S4x224x224x96, .f32⟩
  | 83 => ⟨S4x224x224x96, .f32⟩
  | 84 => ⟨S1x1x96, .f32⟩
  | 85 => ⟨S96, .f32⟩
  | 86 => ⟨S1x1x1x96, .f32⟩
  | 87 => ⟨S4x224x224x96, .f32⟩
  | 88 => ⟨S4x224x224x96, .f32⟩
  | 89 => ⟨S4x224x224x96, .f32⟩
  | 90 => ⟨S4x224x224x96, .f32⟩
  | 91 => ⟨S1x1x96, .f32⟩
  | 92 => ⟨S96, .f32⟩
  | 93 => ⟨S1x1x1x96, .f32⟩
  | 94 => ⟨S4x224x224x96, .f32⟩
  | 95 => ⟨S4x224x224x96, .f32⟩
  | 96 => ⟨S4x224x224x96, .f32⟩
  | 97 => ⟨S4x224x224x96, .f32⟩
  | 98 => ⟨S1x1x96, .f32⟩
  | 99 => ⟨S96, .f32⟩
  | 100 => ⟨S1x1x1x96, .f32⟩
  | 101 => ⟨S4x224x224x96, .f32⟩
  | 102 => ⟨S4x224x224x96, .f32⟩
  | 103 => ⟨S4x224x224x96, .f32⟩
  | 104 => ⟨S4x224x224x96, .f32⟩
  | 105 => ⟨S1x1x96, .f32⟩
  | 106 => ⟨S96, .f32⟩
  | 107 => ⟨S1x1x1x96, .f32⟩
  | 108 => ⟨S4x224x224x96, .f32⟩
  | 109 => ⟨S4x224x224x96, .f32⟩
  | 110 => ⟨S4x224x224x96, .f32⟩
  | 111 => ⟨S4x224x224x96, .f32⟩
  | 112 => ⟨S1x1x96, .f32⟩
  | 113 => ⟨S96, .f32⟩
  | 114 => ⟨S1x1x1x96, .f32⟩
  | 115 => ⟨S4x224x224x96, .f32⟩
  | 116 => ⟨S4x224x224x96, .f32⟩
  | 117 => ⟨S4x224x224x96, .f32⟩
  | 118 => ⟨S4x224x224x96, .f32⟩
  | 119 => ⟨S_, .i32⟩
  | 120 => ⟨S4x224x224x96, .i32⟩
  | 121 => ⟨S4x224x224x96, .i1⟩
  | 122 => ⟨S4x224x224x96, .f32⟩
  | 123 => ⟨S4x224x224x96, .f32⟩
  | 124 => ⟨S1x96, .f32⟩
  | 125 => ⟨S96, .f32⟩
  | 126 => ⟨S1x1x1x96, .f32⟩
  | 127 => ⟨S4x224x224x96, .f32⟩
  | _ => ⟨S4x224x224x96, .f32⟩

abbrev hbmTy0_4 (i : Nat) : BufTy := match i % 128 with
  | 0 => ⟨S4x224x224x96, .f32⟩
  | 1 => ⟨S_, .i32⟩
  | 2 => ⟨S_, .f32⟩
  | 3 => ⟨S4x226x226x96, .f32⟩
  | 4 => ⟨S_, .f32⟩
  | 5 => ⟨S4x224x224x96, .f32⟩
  | 6 => ⟨S4x224x224x96, .f32⟩
  | 7 => ⟨S1x1x96, .f32⟩
  | 8 => ⟨S96, .f32⟩
  | 9 => ⟨S1x1x1x96, .f32⟩
  | 10 => ⟨S4x224x224x96, .f32⟩
  | 11 => ⟨S4x224x224x96, .f32⟩
  | 12 => ⟨S4x224x224x96, .f32⟩
  | 13 => ⟨S4x224x224x96, .f32⟩
  | 14 => ⟨S1x1x96, .f32⟩
  | 15 => ⟨S96, .f32⟩
  | 16 => ⟨S1x1x1x96, .f32⟩
  | 17 => ⟨S4x224x224x96, .f32⟩
  | 18 => ⟨S4x224x224x96, .f32⟩
  | 19 => ⟨S4x224x224x96, .f32⟩
  | 20 => ⟨S4x224x224x96, .f32⟩
  | 21 => ⟨S1x1x96, .f32⟩
  | 22 => ⟨S96, .f32⟩
  | 23 => ⟨S1x1x1x96, .f32⟩
  | 24 => ⟨S4x224x224x96, .f32⟩
  | 25 => ⟨S4x224x224x96, .f32⟩
  | 26 => ⟨S4x224x224x96, .f32⟩
  | 27 => ⟨S4x224x224x96, .f32⟩
  | 28 => ⟨S1x1x96, .f32⟩
  | 29 => ⟨S96, .f32⟩
  | 30 => ⟨S1x1x1x96, .f32⟩
  | 31 => ⟨S4x224x224x96, .f32⟩
  | 32 => ⟨S4x224x224x96, .f32⟩
  | 33 => ⟨S4x224x224x96, .f32⟩
  | 34 => ⟨S4x224x224x96, .f32⟩
  | 35 => ⟨S1x1x96, .f32⟩
  | 36 => ⟨S96, .f32⟩
  | 37 => ⟨S1x1x1x96, .f32⟩
  | 38 => ⟨S4x224x224x96, .f32⟩
  | 39 => ⟨S4x224x224x96, .f32⟩
  | 40 => ⟨S4x224x224x96, .f32⟩
  | 41 => ⟨S4x224x224x96, .f32⟩
  | 42 => ⟨S1x1x96, .f32⟩
  | 43 => ⟨S96, .f32⟩
  | 44 => ⟨S1x1x1x96, .f32⟩
  | 45 => ⟨S4x224x224x96, .f32⟩
  | 46 => ⟨S4x224x224x96, .f32⟩
  | 47 => ⟨S4x224x224x96, .f32⟩
  | 48 => ⟨S4x224x224x96, .f32⟩
  | 49 => ⟨S1x1x96, .f32⟩
  | 50 => ⟨S96, .f32⟩
  | 51 => ⟨S1x1x1x96, .f32⟩
  | 52 => ⟨S4x224x224x96, .f32⟩
  | 53 => ⟨S4x224x224x96, .f32⟩
  | 54 => ⟨S4x224x224x96, .f32⟩
  | 55 => ⟨S4x224x224x96, .f32⟩
  | 56 => ⟨S1x1x96, .f32⟩
  | 57 => ⟨S96, .f32⟩
  | 58 => ⟨S1x1x1x96, .f32⟩
  | 59 => ⟨S4x224x224x96, .f32⟩
  | 60 => ⟨S4x224x224x96, .f32⟩
  | 61 => ⟨S4x224x224x96, .f32⟩
  | 62 => ⟨S4x224x224x96, .f32⟩
  | 63 => ⟨S1x1x96, .f32⟩
  | 64 => ⟨S96, .f32⟩
  | 65 => ⟨S1x1x1x96, .f32⟩
  | 66 => ⟨S4x224x224x96, .f32⟩
  | 67 => ⟨S4x224x224x96, .f32⟩
  | 68 => ⟨S4x224x224x96, .f32⟩
  | 69 => ⟨S4x224x224x96, .f32⟩
  | 70 => ⟨S_, .i32⟩
  | 71 => ⟨S4x224x224x96, .i32⟩
  | 72 => ⟨S4x224x224x96, .i1⟩
  | 73 => ⟨S4x224x224x96, .f32⟩
  | 74 => ⟨S4x224x224x96, .f32⟩
  | 75 => ⟨S1x96, .f32⟩
  | 76 => ⟨S96, .f32⟩
  | 77 => ⟨S1x1x1x96, .f32⟩
  | 78 => ⟨S4x224x224x96, .f32⟩
  | 79 => ⟨S4x224x224x96, .f32⟩
  | 80 => ⟨S_, .i32⟩
  | 81 => ⟨S_, .f32⟩
  | 82 => ⟨S4x226x226x96, .f32⟩
  | 83 => ⟨S_, .f32⟩
  | 84 => ⟨S4x224x224x96, .f32⟩
  | 85 => ⟨S4x224x224x96, .f32⟩
  | 86 => ⟨S1x1x96, .f32⟩
  | 87 => ⟨S96, .f32⟩
  | 88 => ⟨S1x1x1x96, .f32⟩
  | 89 => ⟨S4x224x224x96, .f32⟩
  | 90 => ⟨S4x224x224x96, .f32⟩
  | 91 => ⟨S4x224x224x96, .f32⟩
  | 92 => ⟨S4x224x224x96, .f32⟩
  | 93 => ⟨S1x1x96, .f32⟩
  | 94 => ⟨S96, .f32⟩
  | 95 => ⟨S1x1x1x96, .f32⟩
  | 96 => ⟨S4x224x224x96, .f32⟩
  | 97 => ⟨S4x224x224x96, .f32⟩
  | 98 => ⟨S4x224x224x96, .f32⟩
  | 99 => ⟨S4x224x224x96, .f32⟩
  | 100 => ⟨S1x1x96, .f32⟩
  | 101 => ⟨S96, .f32⟩
  | 102 => ⟨S1x1x1x96, .f32⟩
  | 103 => ⟨S4x224x224x96, .f32⟩
  | 104 => ⟨S4x224x224x96, .f32⟩
  | 105 => ⟨S4x224x224x96, .f32⟩
  | 106 => ⟨S4x224x224x96, .f32⟩
  | 107 => ⟨S1x1x96, .f32⟩
  | 108 => ⟨S96, .f32⟩
  | 109 => ⟨S1x1x1x96, .f32⟩
  | 110 => ⟨S4x224x224x96, .f32⟩
  | 111 => ⟨S4x224x224x96, .f32⟩
  | 112 => ⟨S4x224x224x96, .f32⟩
  | 113 => ⟨S4x224x224x96, .f32⟩
  | 114 => ⟨S1x1x96, .f32⟩
  | 115 => ⟨S96, .f32⟩
  | 116 => ⟨S1x1x1x96, .f32⟩
  | 117 => ⟨S4x224x224x96, .f32⟩
  | 118 => ⟨S4x224x224x96, .f32⟩
  | 119 => ⟨S4x224x224x96, .f32⟩
  | 120 => ⟨S4x224x224x96, .f32⟩
  | 121 => ⟨S1x1x96, .f32⟩
  | 122 => ⟨S96, .f32⟩
  | 123 => ⟨S1x1x1x96, .f32⟩
  | 124 => ⟨S4x224x224x96, .f32⟩
  | 125 => ⟨S4x224x224x96, .f32⟩
  | 126 => ⟨S4x224x224x96, .f32⟩
  | 127 => ⟨S4x224x224x96, .f32⟩
  | _ => ⟨S4x224x224x96, .f32⟩

abbrev hbmTy0_5 (i : Nat) : BufTy := match i % 128 with
  | 0 => ⟨S1x1x96, .f32⟩
  | 1 => ⟨S96, .f32⟩
  | 2 => ⟨S1x1x1x96, .f32⟩
  | 3 => ⟨S4x224x224x96, .f32⟩
  | 4 => ⟨S4x224x224x96, .f32⟩
  | 5 => ⟨S4x224x224x96, .f32⟩
  | 6 => ⟨S4x224x224x96, .f32⟩
  | 7 => ⟨S1x1x96, .f32⟩
  | 8 => ⟨S96, .f32⟩
  | 9 => ⟨S1x1x1x96, .f32⟩
  | 10 => ⟨S4x224x224x96, .f32⟩
  | 11 => ⟨S4x224x224x96, .f32⟩
  | 12 => ⟨S4x224x224x96, .f32⟩
  | 13 => ⟨S4x224x224x96, .f32⟩
  | 14 => ⟨S1x1x96, .f32⟩
  | 15 => ⟨S96, .f32⟩
  | 16 => ⟨S1x1x1x96, .f32⟩
  | 17 => ⟨S4x224x224x96, .f32⟩
  | 18 => ⟨S4x224x224x96, .f32⟩
  | 19 => ⟨S4x224x224x96, .f32⟩
  | 20 => ⟨S4x224x224x96, .f32⟩
  | _ => ⟨S4x224x224x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x224x224x96, .f32⟩

abbrev bufTy : (tb : Table) → Fin (tcTables nBuf tb) → BufTy
  | .hbm, ⟨i, _⟩ => hbmTy i
  | _, _ => ⟨S4x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_call1_v0 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_8 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_c_9 : Ref sig .tc := ⟨.hbm, 118, rfl⟩
abbrev main_call2_v0 : Ref sig .tc := ⟨.hbm, 119, rfl⟩
abbrev main_v98 : Ref sig .tc := ⟨.hbm, 120, rfl⟩
abbrev main_cst_10 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_c_11 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_c_12 : Ref sig .tc := ⟨.hbm, 197, rfl⟩
abbrev main_call3_v0 : Ref sig .tc := ⟨.hbm, 198, rfl⟩
abbrev main_v173 : Ref sig .tc := ⟨.hbm, 199, rfl⟩
abbrev main_cst_13 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_c_14 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_c_15 : Ref sig .tc := ⟨.hbm, 276, rfl⟩
abbrev main_call4_v0 : Ref sig .tc := ⟨.hbm, 277, rfl⟩
abbrev main_v248 : Ref sig .tc := ⟨.hbm, 278, rfl⟩
abbrev main_cst_16 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_c_17 : Ref sig .tc := ⟨.hbm, 345, rfl⟩
abbrev main_v314 : Ref sig .tc := ⟨.hbm, 346, rfl⟩
abbrev main_v315 : Ref sig .tc := ⟨.hbm, 347, rfl⟩
abbrev main_v316 : Ref sig .tc := ⟨.hbm, 348, rfl⟩
abbrev main_v317 : Ref sig .tc := ⟨.hbm, 349, rfl⟩
abbrev main_v318 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_c_18 : Ref sig .tc := ⟨.hbm, 355, rfl⟩
abbrev main_call5_v0 : Ref sig .tc := ⟨.hbm, 356, rfl⟩
abbrev main_v323 : Ref sig .tc := ⟨.hbm, 357, rfl⟩
abbrev main_cst_19 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_v358 : Ref sig .tc := ⟨.hbm, 393, rfl⟩
abbrev main_v359 : Ref sig .tc := ⟨.hbm, 394, rfl⟩
abbrev main_v360 : Ref sig .tc := ⟨.hbm, 395, rfl⟩
abbrev main_v361 : Ref sig .tc := ⟨.hbm, 396, rfl⟩
abbrev main_v362 : Ref sig .tc := ⟨.hbm, 397, rfl⟩
abbrev main_v363 : Ref sig .tc := ⟨.hbm, 398, rfl⟩
abbrev main_v364 : Ref sig .tc := ⟨.hbm, 399, rfl⟩
abbrev main_v365 : Ref sig .tc := ⟨.hbm, 400, rfl⟩
abbrev main_v366 : Ref sig .tc := ⟨.hbm, 401, rfl⟩
abbrev main_v367 : Ref sig .tc := ⟨.hbm, 402, rfl⟩
abbrev main_v368 : Ref sig .tc := ⟨.hbm, 403, rfl⟩
abbrev main_v369 : Ref sig .tc := ⟨.hbm, 404, rfl⟩
abbrev main_v370 : Ref sig .tc := ⟨.hbm, 405, rfl⟩
abbrev main_v371 : Ref sig .tc := ⟨.hbm, 406, rfl⟩
abbrev main_v372 : Ref sig .tc := ⟨.hbm, 407, rfl⟩
abbrev main_v373 : Ref sig .tc := ⟨.hbm, 408, rfl⟩
abbrev main_v374 : Ref sig .tc := ⟨.hbm, 409, rfl⟩
abbrev main_v375 : Ref sig .tc := ⟨.hbm, 410, rfl⟩
abbrev main_v376 : Ref sig .tc := ⟨.hbm, 411, rfl⟩
abbrev main_v377 : Ref sig .tc := ⟨.hbm, 412, rfl⟩
abbrev main_v378 : Ref sig .tc := ⟨.hbm, 413, rfl⟩
abbrev main_v379 : Ref sig .tc := ⟨.hbm, 414, rfl⟩
abbrev main_v380 : Ref sig .tc := ⟨.hbm, 415, rfl⟩
abbrev main_v381 : Ref sig .tc := ⟨.hbm, 416, rfl⟩
abbrev main_v382 : Ref sig .tc := ⟨.hbm, 417, rfl⟩
abbrev main_v383 : Ref sig .tc := ⟨.hbm, 418, rfl⟩
abbrev main_v384 : Ref sig .tc := ⟨.hbm, 419, rfl⟩
abbrev main_v385 : Ref sig .tc := ⟨.hbm, 420, rfl⟩
abbrev main_v386 : Ref sig .tc := ⟨.hbm, 421, rfl⟩
abbrev main_v387 : Ref sig .tc := ⟨.hbm, 422, rfl⟩
abbrev main_v388 : Ref sig .tc := ⟨.hbm, 423, rfl⟩
abbrev main_c_20 : Ref sig .tc := ⟨.hbm, 424, rfl⟩
abbrev main_v389 : Ref sig .tc := ⟨.hbm, 425, rfl⟩
abbrev main_v390 : Ref sig .tc := ⟨.hbm, 426, rfl⟩
abbrev main_v391 : Ref sig .tc := ⟨.hbm, 427, rfl⟩
abbrev main_v392 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v397 : Ref sig .tc := ⟨.hbm, 433, rfl⟩
abbrev main_c_21 : Ref sig .tc := ⟨.hbm, 434, rfl⟩
abbrev main_call6_v0 : Ref sig .tc := ⟨.hbm, 435, rfl⟩
abbrev main_v398 : Ref sig .tc := ⟨.hbm, 436, rfl⟩
abbrev main_cst_22 : Ref sig .tc := ⟨.hbm, 437, rfl⟩
abbrev main_v399 : Ref sig .tc := ⟨.hbm, 438, rfl⟩
abbrev main_v400 : Ref sig .tc := ⟨.hbm, 439, rfl⟩
abbrev main_v401 : Ref sig .tc := ⟨.hbm, 440, rfl⟩
abbrev main_v402 : Ref sig .tc := ⟨.hbm, 441, rfl⟩
abbrev main_v403 : Ref sig .tc := ⟨.hbm, 442, rfl⟩
abbrev main_v404 : Ref sig .tc := ⟨.hbm, 443, rfl⟩
abbrev main_v405 : Ref sig .tc := ⟨.hbm, 444, rfl⟩
abbrev main_v406 : Ref sig .tc := ⟨.hbm, 445, rfl⟩
abbrev main_v407 : Ref sig .tc := ⟨.hbm, 446, rfl⟩
abbrev main_v408 : Ref sig .tc := ⟨.hbm, 447, rfl⟩
abbrev main_v409 : Ref sig .tc := ⟨.hbm, 448, rfl⟩
abbrev main_v410 : Ref sig .tc := ⟨.hbm, 449, rfl⟩
abbrev main_v411 : Ref sig .tc := ⟨.hbm, 450, rfl⟩
abbrev main_v412 : Ref sig .tc := ⟨.hbm, 451, rfl⟩
abbrev main_v413 : Ref sig .tc := ⟨.hbm, 452, rfl⟩
abbrev main_v414 : Ref sig .tc := ⟨.hbm, 453, rfl⟩
abbrev main_v415 : Ref sig .tc := ⟨.hbm, 454, rfl⟩
abbrev main_v416 : Ref sig .tc := ⟨.hbm, 455, rfl⟩
abbrev main_v417 : Ref sig .tc := ⟨.hbm, 456, rfl⟩
abbrev main_v418 : Ref sig .tc := ⟨.hbm, 457, rfl⟩
abbrev main_v419 : Ref sig .tc := ⟨.hbm, 458, rfl⟩
abbrev main_v420 : Ref sig .tc := ⟨.hbm, 459, rfl⟩
abbrev main_v421 : Ref sig .tc := ⟨.hbm, 460, rfl⟩
abbrev main_v422 : Ref sig .tc := ⟨.hbm, 461, rfl⟩
abbrev main_v423 : Ref sig .tc := ⟨.hbm, 462, rfl⟩
abbrev main_v424 : Ref sig .tc := ⟨.hbm, 463, rfl⟩
abbrev main_v425 : Ref sig .tc := ⟨.hbm, 464, rfl⟩
abbrev main_v426 : Ref sig .tc := ⟨.hbm, 465, rfl⟩
abbrev main_v427 : Ref sig .tc := ⟨.hbm, 466, rfl⟩
abbrev main_v428 : Ref sig .tc := ⟨.hbm, 467, rfl⟩
abbrev main_v429 : Ref sig .tc := ⟨.hbm, 468, rfl⟩
abbrev main_v430 : Ref sig .tc := ⟨.hbm, 469, rfl⟩
abbrev main_v431 : Ref sig .tc := ⟨.hbm, 470, rfl⟩
abbrev main_v432 : Ref sig .tc := ⟨.hbm, 471, rfl⟩
abbrev main_v433 : Ref sig .tc := ⟨.hbm, 472, rfl⟩
abbrev main_v434 : Ref sig .tc := ⟨.hbm, 473, rfl⟩
abbrev main_v435 : Ref sig .tc := ⟨.hbm, 474, rfl⟩
abbrev main_v436 : Ref sig .tc := ⟨.hbm, 475, rfl⟩
abbrev main_v437 : Ref sig .tc := ⟨.hbm, 476, rfl⟩
abbrev main_v438 : Ref sig .tc := ⟨.hbm, 477, rfl⟩
abbrev main_v439 : Ref sig .tc := ⟨.hbm, 478, rfl⟩
abbrev main_v440 : Ref sig .tc := ⟨.hbm, 479, rfl⟩
abbrev main_v441 : Ref sig .tc := ⟨.hbm, 480, rfl⟩
abbrev main_v442 : Ref sig .tc := ⟨.hbm, 481, rfl⟩
abbrev main_v443 : Ref sig .tc := ⟨.hbm, 482, rfl⟩
abbrev main_v444 : Ref sig .tc := ⟨.hbm, 483, rfl⟩
abbrev main_v445 : Ref sig .tc := ⟨.hbm, 484, rfl⟩
abbrev main_v446 : Ref sig .tc := ⟨.hbm, 485, rfl⟩
abbrev main_v447 : Ref sig .tc := ⟨.hbm, 486, rfl⟩
abbrev main_v448 : Ref sig .tc := ⟨.hbm, 487, rfl⟩
abbrev main_v449 : Ref sig .tc := ⟨.hbm, 488, rfl⟩
abbrev main_v450 : Ref sig .tc := ⟨.hbm, 489, rfl⟩
abbrev main_v451 : Ref sig .tc := ⟨.hbm, 490, rfl⟩
abbrev main_v452 : Ref sig .tc := ⟨.hbm, 491, rfl⟩
abbrev main_v453 : Ref sig .tc := ⟨.hbm, 492, rfl⟩
abbrev main_v454 : Ref sig .tc := ⟨.hbm, 493, rfl⟩
abbrev main_v455 : Ref sig .tc := ⟨.hbm, 494, rfl⟩
abbrev main_v456 : Ref sig .tc := ⟨.hbm, 495, rfl⟩
abbrev main_v457 : Ref sig .tc := ⟨.hbm, 496, rfl⟩
abbrev main_v458 : Ref sig .tc := ⟨.hbm, 497, rfl⟩
abbrev main_v459 : Ref sig .tc := ⟨.hbm, 498, rfl⟩
abbrev main_v460 : Ref sig .tc := ⟨.hbm, 499, rfl⟩
abbrev main_v461 : Ref sig .tc := ⟨.hbm, 500, rfl⟩
abbrev main_v462 : Ref sig .tc := ⟨.hbm, 501, rfl⟩
abbrev main_v463 : Ref sig .tc := ⟨.hbm, 502, rfl⟩
abbrev main_c_23 : Ref sig .tc := ⟨.hbm, 503, rfl⟩
abbrev main_v464 : Ref sig .tc := ⟨.hbm, 504, rfl⟩
abbrev main_v465 : Ref sig .tc := ⟨.hbm, 505, rfl⟩
abbrev main_v466 : Ref sig .tc := ⟨.hbm, 506, rfl⟩
abbrev main_v467 : Ref sig .tc := ⟨.hbm, 507, rfl⟩
abbrev main_v468 : Ref sig .tc := ⟨.hbm, 508, rfl⟩
abbrev main_v469 : Ref sig .tc := ⟨.hbm, 509, rfl⟩
abbrev main_v470 : Ref sig .tc := ⟨.hbm, 510, rfl⟩
abbrev main_v471 : Ref sig .tc := ⟨.hbm, 511, rfl⟩
abbrev main_v472 : Ref sig .tc := ⟨.hbm, 512, rfl⟩
abbrev main_c_24 : Ref sig .tc := ⟨.hbm, 513, rfl⟩
abbrev main_call7_v0 : Ref sig .tc := ⟨.hbm, 514, rfl⟩
abbrev main_v473 : Ref sig .tc := ⟨.hbm, 515, rfl⟩
abbrev main_cst_25 : Ref sig .tc := ⟨.hbm, 516, rfl⟩
abbrev main_v474 : Ref sig .tc := ⟨.hbm, 517, rfl⟩
abbrev main_v475 : Ref sig .tc := ⟨.hbm, 518, rfl⟩
abbrev main_v476 : Ref sig .tc := ⟨.hbm, 519, rfl⟩
abbrev main_v477 : Ref sig .tc := ⟨.hbm, 520, rfl⟩
abbrev main_v478 : Ref sig .tc := ⟨.hbm, 521, rfl⟩
abbrev main_v479 : Ref sig .tc := ⟨.hbm, 522, rfl⟩
abbrev main_v480 : Ref sig .tc := ⟨.hbm, 523, rfl⟩
abbrev main_v481 : Ref sig .tc := ⟨.hbm, 524, rfl⟩
abbrev main_v482 : Ref sig .tc := ⟨.hbm, 525, rfl⟩
abbrev main_v483 : Ref sig .tc := ⟨.hbm, 526, rfl⟩
abbrev main_v484 : Ref sig .tc := ⟨.hbm, 527, rfl⟩
abbrev main_v485 : Ref sig .tc := ⟨.hbm, 528, rfl⟩
abbrev main_v486 : Ref sig .tc := ⟨.hbm, 529, rfl⟩
abbrev main_v487 : Ref sig .tc := ⟨.hbm, 530, rfl⟩
abbrev main_v488 : Ref sig .tc := ⟨.hbm, 531, rfl⟩
abbrev main_v489 : Ref sig .tc := ⟨.hbm, 532, rfl⟩
abbrev main_v490 : Ref sig .tc := ⟨.hbm, 533, rfl⟩
abbrev main_v491 : Ref sig .tc := ⟨.hbm, 534, rfl⟩
abbrev main_v492 : Ref sig .tc := ⟨.hbm, 535, rfl⟩
abbrev main_v493 : Ref sig .tc := ⟨.hbm, 536, rfl⟩
abbrev main_v494 : Ref sig .tc := ⟨.hbm, 537, rfl⟩
abbrev main_v495 : Ref sig .tc := ⟨.hbm, 538, rfl⟩
abbrev main_v496 : Ref sig .tc := ⟨.hbm, 539, rfl⟩
abbrev main_v497 : Ref sig .tc := ⟨.hbm, 540, rfl⟩
abbrev main_v498 : Ref sig .tc := ⟨.hbm, 541, rfl⟩
abbrev main_v499 : Ref sig .tc := ⟨.hbm, 542, rfl⟩
abbrev main_v500 : Ref sig .tc := ⟨.hbm, 543, rfl⟩
abbrev main_v501 : Ref sig .tc := ⟨.hbm, 544, rfl⟩
abbrev main_v502 : Ref sig .tc := ⟨.hbm, 545, rfl⟩
abbrev main_v503 : Ref sig .tc := ⟨.hbm, 546, rfl⟩
abbrev main_v504 : Ref sig .tc := ⟨.hbm, 547, rfl⟩
abbrev main_v505 : Ref sig .tc := ⟨.hbm, 548, rfl⟩
abbrev main_v506 : Ref sig .tc := ⟨.hbm, 549, rfl⟩
abbrev main_v507 : Ref sig .tc := ⟨.hbm, 550, rfl⟩
abbrev main_v508 : Ref sig .tc := ⟨.hbm, 551, rfl⟩
abbrev main_v509 : Ref sig .tc := ⟨.hbm, 552, rfl⟩
abbrev main_v510 : Ref sig .tc := ⟨.hbm, 553, rfl⟩
abbrev main_v511 : Ref sig .tc := ⟨.hbm, 554, rfl⟩
abbrev main_v512 : Ref sig .tc := ⟨.hbm, 555, rfl⟩
abbrev main_v513 : Ref sig .tc := ⟨.hbm, 556, rfl⟩
abbrev main_v514 : Ref sig .tc := ⟨.hbm, 557, rfl⟩
abbrev main_v515 : Ref sig .tc := ⟨.hbm, 558, rfl⟩
abbrev main_v516 : Ref sig .tc := ⟨.hbm, 559, rfl⟩
abbrev main_v517 : Ref sig .tc := ⟨.hbm, 560, rfl⟩
abbrev main_v518 : Ref sig .tc := ⟨.hbm, 561, rfl⟩
abbrev main_v519 : Ref sig .tc := ⟨.hbm, 562, rfl⟩
abbrev main_v520 : Ref sig .tc := ⟨.hbm, 563, rfl⟩
abbrev main_v521 : Ref sig .tc := ⟨.hbm, 564, rfl⟩
abbrev main_v522 : Ref sig .tc := ⟨.hbm, 565, rfl⟩
abbrev main_v523 : Ref sig .tc := ⟨.hbm, 566, rfl⟩
abbrev main_v524 : Ref sig .tc := ⟨.hbm, 567, rfl⟩
abbrev main_v525 : Ref sig .tc := ⟨.hbm, 568, rfl⟩
abbrev main_v526 : Ref sig .tc := ⟨.hbm, 569, rfl⟩
abbrev main_v527 : Ref sig .tc := ⟨.hbm, 570, rfl⟩
abbrev main_v528 : Ref sig .tc := ⟨.hbm, 571, rfl⟩
abbrev main_v529 : Ref sig .tc := ⟨.hbm, 572, rfl⟩
abbrev main_v530 : Ref sig .tc := ⟨.hbm, 573, rfl⟩
abbrev main_v531 : Ref sig .tc := ⟨.hbm, 574, rfl⟩
abbrev main_v532 : Ref sig .tc := ⟨.hbm, 575, rfl⟩
abbrev main_v533 : Ref sig .tc := ⟨.hbm, 576, rfl⟩
abbrev main_v534 : Ref sig .tc := ⟨.hbm, 577, rfl⟩
abbrev main_v535 : Ref sig .tc := ⟨.hbm, 578, rfl⟩
abbrev main_v536 : Ref sig .tc := ⟨.hbm, 579, rfl⟩
abbrev main_v537 : Ref sig .tc := ⟨.hbm, 580, rfl⟩
abbrev main_v538 : Ref sig .tc := ⟨.hbm, 581, rfl⟩
abbrev main_c_26 : Ref sig .tc := ⟨.hbm, 582, rfl⟩
abbrev main_v539 : Ref sig .tc := ⟨.hbm, 583, rfl⟩
abbrev main_v540 : Ref sig .tc := ⟨.hbm, 584, rfl⟩
abbrev main_v541 : Ref sig .tc := ⟨.hbm, 585, rfl⟩
abbrev main_v542 : Ref sig .tc := ⟨.hbm, 586, rfl⟩
abbrev main_v543 : Ref sig .tc := ⟨.hbm, 587, rfl⟩
abbrev main_v544 : Ref sig .tc := ⟨.hbm, 588, rfl⟩
abbrev main_v545 : Ref sig .tc := ⟨.hbm, 589, rfl⟩
abbrev main_v546 : Ref sig .tc := ⟨.hbm, 590, rfl⟩
abbrev main_v547 : Ref sig .tc := ⟨.hbm, 591, rfl⟩
abbrev main_c_27 : Ref sig .tc := ⟨.hbm, 592, rfl⟩
abbrev main_call8_v0 : Ref sig .tc := ⟨.hbm, 593, rfl⟩
abbrev main_v548 : Ref sig .tc := ⟨.hbm, 594, rfl⟩
abbrev main_cst_28 : Ref sig .tc := ⟨.hbm, 595, rfl⟩
abbrev main_v549 : Ref sig .tc := ⟨.hbm, 596, rfl⟩
abbrev main_v550 : Ref sig .tc := ⟨.hbm, 597, rfl⟩
abbrev main_v551 : Ref sig .tc := ⟨.hbm, 598, rfl⟩
abbrev main_v552 : Ref sig .tc := ⟨.hbm, 599, rfl⟩
abbrev main_v553 : Ref sig .tc := ⟨.hbm, 600, rfl⟩
abbrev main_v554 : Ref sig .tc := ⟨.hbm, 601, rfl⟩
abbrev main_v555 : Ref sig .tc := ⟨.hbm, 602, rfl⟩
abbrev main_v556 : Ref sig .tc := ⟨.hbm, 603, rfl⟩
abbrev main_v557 : Ref sig .tc := ⟨.hbm, 604, rfl⟩
abbrev main_v558 : Ref sig .tc := ⟨.hbm, 605, rfl⟩
abbrev main_v559 : Ref sig .tc := ⟨.hbm, 606, rfl⟩
abbrev main_v560 : Ref sig .tc := ⟨.hbm, 607, rfl⟩
abbrev main_v561 : Ref sig .tc := ⟨.hbm, 608, rfl⟩
abbrev main_v562 : Ref sig .tc := ⟨.hbm, 609, rfl⟩
abbrev main_v563 : Ref sig .tc := ⟨.hbm, 610, rfl⟩
abbrev main_v564 : Ref sig .tc := ⟨.hbm, 611, rfl⟩
abbrev main_v565 : Ref sig .tc := ⟨.hbm, 612, rfl⟩
abbrev main_v566 : Ref sig .tc := ⟨.hbm, 613, rfl⟩
abbrev main_v567 : Ref sig .tc := ⟨.hbm, 614, rfl⟩
abbrev main_v568 : Ref sig .tc := ⟨.hbm, 615, rfl⟩
abbrev main_v569 : Ref sig .tc := ⟨.hbm, 616, rfl⟩
abbrev main_v570 : Ref sig .tc := ⟨.hbm, 617, rfl⟩
abbrev main_v571 : Ref sig .tc := ⟨.hbm, 618, rfl⟩
abbrev main_v572 : Ref sig .tc := ⟨.hbm, 619, rfl⟩
abbrev main_v573 : Ref sig .tc := ⟨.hbm, 620, rfl⟩
abbrev main_v574 : Ref sig .tc := ⟨.hbm, 621, rfl⟩
abbrev main_v575 : Ref sig .tc := ⟨.hbm, 622, rfl⟩
abbrev main_v576 : Ref sig .tc := ⟨.hbm, 623, rfl⟩
abbrev main_v577 : Ref sig .tc := ⟨.hbm, 624, rfl⟩
abbrev main_v578 : Ref sig .tc := ⟨.hbm, 625, rfl⟩
abbrev main_v579 : Ref sig .tc := ⟨.hbm, 626, rfl⟩
abbrev main_v580 : Ref sig .tc := ⟨.hbm, 627, rfl⟩
abbrev main_v581 : Ref sig .tc := ⟨.hbm, 628, rfl⟩
abbrev main_v582 : Ref sig .tc := ⟨.hbm, 629, rfl⟩
abbrev main_v583 : Ref sig .tc := ⟨.hbm, 630, rfl⟩
abbrev main_v584 : Ref sig .tc := ⟨.hbm, 631, rfl⟩
abbrev main_v585 : Ref sig .tc := ⟨.hbm, 632, rfl⟩
abbrev main_v586 : Ref sig .tc := ⟨.hbm, 633, rfl⟩
abbrev main_v587 : Ref sig .tc := ⟨.hbm, 634, rfl⟩
abbrev main_v588 : Ref sig .tc := ⟨.hbm, 635, rfl⟩
abbrev main_v589 : Ref sig .tc := ⟨.hbm, 636, rfl⟩
abbrev main_v590 : Ref sig .tc := ⟨.hbm, 637, rfl⟩
abbrev main_v591 : Ref sig .tc := ⟨.hbm, 638, rfl⟩
abbrev main_v592 : Ref sig .tc := ⟨.hbm, 639, rfl⟩
abbrev main_v593 : Ref sig .tc := ⟨.hbm, 640, rfl⟩
abbrev main_v594 : Ref sig .tc := ⟨.hbm, 641, rfl⟩
abbrev main_v595 : Ref sig .tc := ⟨.hbm, 642, rfl⟩
abbrev main_v596 : Ref sig .tc := ⟨.hbm, 643, rfl⟩
abbrev main_v597 : Ref sig .tc := ⟨.hbm, 644, rfl⟩
abbrev main_v598 : Ref sig .tc := ⟨.hbm, 645, rfl⟩
abbrev main_v599 : Ref sig .tc := ⟨.hbm, 646, rfl⟩
abbrev main_v600 : Ref sig .tc := ⟨.hbm, 647, rfl⟩
abbrev main_v601 : Ref sig .tc := ⟨.hbm, 648, rfl⟩
abbrev main_v602 : Ref sig .tc := ⟨.hbm, 649, rfl⟩
abbrev main_v603 : Ref sig .tc := ⟨.hbm, 650, rfl⟩
abbrev main_v604 : Ref sig .tc := ⟨.hbm, 651, rfl⟩
abbrev main_v605 : Ref sig .tc := ⟨.hbm, 652, rfl⟩
abbrev main_v606 : Ref sig .tc := ⟨.hbm, 653, rfl⟩
abbrev main_v607 : Ref sig .tc := ⟨.hbm, 654, rfl⟩
abbrev main_v608 : Ref sig .tc := ⟨.hbm, 655, rfl⟩
abbrev main_v609 : Ref sig .tc := ⟨.hbm, 656, rfl⟩
abbrev main_v610 : Ref sig .tc := ⟨.hbm, 657, rfl⟩
abbrev main_v611 : Ref sig .tc := ⟨.hbm, 658, rfl⟩
abbrev main_v612 : Ref sig .tc := ⟨.hbm, 659, rfl⟩
abbrev main_v613 : Ref sig .tc := ⟨.hbm, 660, rfl⟩

abbrev nD : Nat := 1
abbrev τ : Topo := Topo.v7x

variable {F : FTy → Type} [FloatOps F]
-- ==== Proof.Common.lean ====
/-
  Memory as the body's runs hold it: a buffer's contents type, and the buffer held whole.
-/
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The type of the contents of memref `M`'s buffer on core `c`; -/
abbrev Bf (c : Dev nD) {sp : Space} {S : Shape} {e : EltTy} (M : Memref sig .tc sp S e) : Type := Buf (Elt F) (M.view.loc (c : Thread nD τ))
/-- and that buffer held whole at the contents `f`. -/
abbrev pt (c : Dev nD) {sp : Space} {S : Shape} {e : EltTy} (M : Memref sig .tc sp S e) (f : Bf (F := F) c M) : sProp 𝕄 :=
  M.view.loc (c : Thread nD τ) ↦{fullShare} f

end Cert.KernelIdeal.Proof

end
-- ==== Proof.Streamed.lean ====
/-
  The kernel's second pass over a block whose rows it reads from the staged input block: the body run once, at symbolic
  memrefs and contents.
-/
module

public import proofs.«01_k».proof.Proof.Common

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the result's block and the row ring, with the proof that it runs there. -/
noncomputable def streamedRun (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (hc1 : ¬ k0_cond1 i = 1#1) (hc5 : ¬ k0_cond5 i = 1#1) (hc6 : k0_cond6 i = 1#1)
    (f3 : Bf (F := F) c M3) (f4 : Bf (F := F) c M4) (f5 : Bf (F := F) c M5) (f6 : Bf (F := F) c M6) (f7 : Bf (F := F) c M7)
    (f9 : Bf (F := F) c M9) (f11 : Bf (F := F) c M11) :
    { W : Bf (F := F) c M8 //
      ∀ (f8 : Bf (F := F) c M8) (f10 : Bf (F := F) c M10) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M3 f3 ∗ pt c M4 f4 ∗ pt c M5 f5 ∗ pt c M6 f6 ∗ pt c M7 f7 ∗ pt c M8 W ∗ pt c M9 f9 ∗ (∃ f, pt c M10 f) ∗ pt c M11 f11) -∗ Q ⟨⟩))
        ⊢ wp frame (wpE (defs₀ (F := F)) Variants.none c none) E
            (cc0__fused_kernel i M3 h3 M4 h4 M5 h5 M6 h6 M7 h7 M8 h8 M9 h9 M10 h10 M11 h11) Q } := by
  refine ⟨?_, fun f8 f10 E Q => ?run⟩
  case run =>
    iintro ⟨H3, H4, H5, H6, H7, H8, H9, H10, H11, Hk⟩
    sl_exec_parts!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexact H11

end Cert.KernelIdeal.Proof

end
-- ==== Proof.Row.lean ====
/-
  What the second pass computes for one row: the row's elements each times the table row its bin selects, the padded row
  the ring holds, and an output row as nine shifted products. Stated at any float interpretation, as the body's operations.
-/
module

public import proofs.«01_k».proof.Proof.Gen.KernelIdeal.Skeleton
public import Idealize.ShloMosaic.Lib.Tactic

@[expose] public section

set_option maxRecDepth 16384

noncomputable section

namespace Cert.KernelIdeal.Proof

open Cert.KernelIdeal Cert.KernelIdeal.Gen
open Idealize.ShloMosaic Idealize.ShloMosaic.TcCoe

variable {F : FTy → Type} [FloatOps F]

/-- The width of a bin: an eighth of the range plus the printed 1e-8. -/
def binw (mn mx : F .f32) : F .f32 :=
  Scalar.divf (Scalar.addf (Scalar.subf mx mn) (Scalar.ofBits .f32 0x322BCC77#32)) (Scalar.ofBits .f32 0x41000000#32)

/-- The lower end of the bin whose number is the float word `j`. -/
def edge (mn bw : F .f32) (j : BitVec 32) : F .f32 := Scalar.addf mn (Scalar.mulf (Scalar.ofBits .f32 j) bw)

/-- A row of the table, spread over the 224 columns. -/
def coRow (co : Vec F S8x96 .f32) (off : Fin 2 → Nat) (h : S8x96.Slices off S1x96) : FVec F S224x96 .f32 :=
  broadcastTo S224x96 (shapeCast S1x96 (shapeCast S96 (extractStridedSlice S1x96 off co h) shapeCasts_S1x96_S96) shapeCasts_S96_S1x96)
    broadcasts_S1x96_S224x96

/-- One step of the selection: from the edge `j` on, the table row at `off`. -/
def step (mn bw : F .f32) (co : Vec F S8x96 .f32) (v : FVec F S224x96 .f32) (j : BitVec 32) (off : Fin 2 → Nat) (h : S8x96.Slices off S1x96)
    (prev : FVec F S224x96 .f32) : FVec F S224x96 .f32 :=
  select (cmpf .oge v (broadcast S224x96 (edge mn bw j))) (coRow co off h) prev

/-- A row times the table rows its bins select. -/
def scaled (mn bw : F .f32) (co : Vec F S8x96 .f32) (v : FVec F S224x96 .f32) : FVec F S224x96 .f32 :=
  mulf v
    (step mn bw co v 0x40E00000#32 ![7, 0] slices_S8x96_o7_0_S1x96
    (step mn bw co v 0x40C00000#32 ![6, 0] slices_S8x96_o6_0_S1x96
    (step mn bw co v 0x40A00000#32 ![5, 0] slices_S8x96_o5_0_S1x96
    (step mn bw co v 0x40800000#32 ![4, 0] slices_S8x96_o4_0_S1x96
    (step mn bw co v 0x40400000#32 ![3, 0] slices_S8x96_o3_0_S1x96
    (step mn bw co v 0x40000000#32 ![2, 0] slices_S8x96_o2_0_S1x96
    (step mn bw co v 0x3F800000#32 ![1, 0] slices_S8x96_o1_0_S1x96
    (coRow co ![0, 0] slices_S8x96_o0_0_S1x96))))))))

/-- A row between two zero columns, as the ring holds it. -/
def padded (v : FVec F S224x96 .f32) : FVec F S1x226x96 .f32 :=
  shapeCast S1x226x96
    (concatenate S226x96 0 [⟨S1x96, broadcast S1x96 (Scalar.ofBits .f32 0x00000000#32)⟩, ⟨S224x96, v⟩,
      ⟨S1x96, broadcast S1x96 (Scalar.ofBits .f32 0x00000000#32)⟩] concatenates_S1x96_S224x96_S1x96_S226x96_d0)
    shapeCasts_S226x96_S1x226x96

/-- A row kept where the bit is set and multiplied by zero elsewhere. -/
def masked (b : BitVec 1) (v : FVec F S224x96 .f32) : FVec F S224x96 .f32 :=
  mulf v (broadcast S224x96 (Scalar.select b (Scalar.ofBits .f32 0x3F800000#32) (Scalar.ofBits .f32 0x00000000#32)))

/-- The padded row number `r` of a block, 0 and 29 the halo rows above and below it. -/
def ringRow (mn bw : F .f32) (co : Vec F S8x96 .f32) (i : BitVec 32) (top bot : FVec F S224x96 .f32) (mid : ℕ → FVec F S224x96 .f32) :
    ℕ → FVec F S1x226x96 .f32
  | 0 => padded (masked (Scalar.cmpi .sgt i 0#32) (scaled mn bw co top))
  | r + 1 => match r with
    | 28 => padded (masked (Scalar.cmpi .slt i 7#32) (scaled mn bw co bot))
    | r => padded (scaled mn bw co (mid r))

/-- A tap of the weights, spread over the 224 columns. -/
def tap (w : Vec F S3x3x96 .f32) (off : Fin 3 → Nat) (h : S3x3x96.Slices off S1x1x96) : FVec F S224x96 .f32 :=
  broadcastTo S224x96 (shapeCast S1x96 (shapeCast S96 (extractStridedSlice S1x1x96 off w h) shapeCasts_S1x1x96_S96) shapeCasts_S96_S1x96)
    broadcasts_S1x96_S224x96

/-- A loaded row times a tap. -/
def prod (w : Vec F S3x3x96 .f32) (off : Fin 3 → Nat) (h : S3x3x96.Slices off S1x1x96) (t : Vec F S1x224x96 .f32) : FVec F S224x96 .f32 :=
  mulf (shapeCast S224x96 t shapeCasts_S1x224x96_S224x96) (tap w off h)

/-- An output row: the nine shifted rows `t` times the taps, added in order. -/
def convRow (w : Vec F S3x3x96 .f32) (t : ℕ → ℕ → Vec F S1x224x96 .f32) : FVec F S1x1x224x96 .f32 :=
  shapeCast S1x1x224x96
    (addf (addf (addf (addf (addf (addf (addf (addf
      (prod w ![0, 0, 0] slices_S3x3x96_o0_0_0_S1x1x96 (t 0 0))
      (prod w ![0, 1, 0] slices_S3x3x96_o0_1_0_S1x1x96 (t 0 1)))
      (prod w ![0, 2, 0] slices_S3x3x96_o0_2_0_S1x1x96 (t 0 2)))
      (prod w ![1, 0, 0] slices_S3x3x96_o1_0_0_S1x1x96 (t 1 0)))
      (prod w ![1, 1, 0] slices_S3x3x96_o1_1_0_S1x1x96 (t 1 1)))
      (prod w ![1, 2, 0] slices_S3x3x96_o1_2_0_S1x1x96 (t 1 2)))
      (prod w ![2, 0, 0] slices_S3x3x96_o2_0_0_S1x1x96 (t 2 0)))
      (prod w ![2, 1, 0] slices_S3x3x96_o2_1_0_S1x1x96 (t 2 1)))
      (prod w ![2, 2, 0] slices_S3x3x96_o2_2_0_S1x1x96 (t 2 2)))
    shapeCasts_S224x96_S1x1x224x96

/-! ## The ring and the output block as lists of stores -/

abbrev RingPiece (F : FTy → Type) := View.Piece (Elt F) S4x226x96 .f32
abbrev OutPiece (F : FTy → Type) := View.Piece (Elt F) S1x28x224x96 .f32

/-- Slot `r % 4` of the ring, whole; -/
def slot (r : ℕ) : Rect S4x226x96 := Rect.unit (s := S4x226x96) ![r % 4, 0, 0] S1x226x96.size
  (by have := Nat.mod_lt r (by decide : 0 < 4); intro a; fin_cases a <;> simp [S4x226x96, S1x226x96] <;> omega)

/-- and the 224 columns of it from `d` on. -/
def slotFrom (r d : ℕ) : Rect S4x226x96 := Rect.unit (s := S4x226x96) ![r % 4, d % 3, 0] S1x224x96.size
  (by
    have := Nat.mod_lt r (by decide : 0 < 4); have := Nat.mod_lt d (by decide : 0 < 3)
    intro a; fin_cases a <;> simp [S4x226x96, S1x224x96] <;> omega)

/-- Row `h` of the output block. -/
def outRect (h : ℕ) : Rect S1x28x224x96 := Rect.unit (s := S1x28x224x96) ![0, h % 28, 0, 0] S1x1x224x96.size
  (by have := Nat.mod_lt h (by decide : 0 < 28); intro a; fin_cases a <;> simp [S1x28x224x96, S1x1x224x96] <;> omega)

/-- The lists of stores the ring goes through: each the one before it with the next padded row stored in its slot. The list
    given holds the newest first. -/
def Ringed (P : ℕ → FVec F S1x226x96 .f32) : ℕ → List (List (RingPiece F)) → Prop
  | 0, Ls => Ls = []
  | _ + 1, [] => False
  | n + 1, L :: Ls => L = (⟨slot n, P n⟩ : RingPiece F) :: Ls.headD [] ∧ Ringed P n Ls

/-- The output block's stores after `n` rows, row `h` at `Q h`. -/
def outList (Q : ℕ → FVec F S1x1x224x96 .f32) : ℕ → List (OutPiece F)
  | 0 => []
  | n + 1 => (⟨outRect n, Q n⟩ : OutPiece F) :: outList Q n

end Cert.KernelIdeal.Proof

end
-- ==== Proof.Rows.lean ====
/-
  The rows, words and tables the second pass loads, as functions of what the buffers hold.
-/
module

public import proofs.«01_k».proof.Proof.Common
public import proofs.«01_k».proof.Proof.Row

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords)
    (M3 : Memref sig .tc .vmem S1x28x224x96 .f32) (M4 : Memref sig .tc .vmem S1x1x224x96 .f32)
    (M5 : Memref sig .tc .vmem S1x1x224x96 .f32) (M6 : Memref sig .tc .vmem S8x96 .f32)
    (M7 : Memref sig .tc .vmem S3x3x96 .f32) (M9 : Memref sig .tc .vmem S420x224x96 .f32) (M10 : Memref sig .tc .vmem S4x226x96 .f32) (M11 : Memref sig .tc .smem S2 .f32)
    (f3 : Bf (F := F) c M3) (f4 : Bf (F := F) c M4) (f5 : Bf (F := F) c M5) (f6 : Bf (F := F) c M6) (f7 : Bf (F := F) c M7)
    (f9 : Bf (F := F) c M9) (f11 : Bf (F := F) c M11)

/-- The row `h` of the staged block. -/
def blockRow (h : ℕ) : FVec F S224x96 .f32 :=
  shapeCast S224x96 (View.readAt (Elt F) M3.view (Rect.unit (s := S1x28x224x96) ![0, h % 28, 0, 0] S1x1x224x96.size
   (by have := Nat.mod_lt h (by decide : 0 < 28); intro a; fin_cases a <;> simp [S1x28x224x96, S1x1x224x96] <;> omega)).toLoadRect f3)
    shapeCasts_S1x1x224x96_S224x96

/-- The row `h` of the point's block, from the cache. -/
def cachedRow (hc5 : k0_cond5 i = 1#1) (h : ℕ) : FVec F S224x96 .f32 :=
  shapeCast S224x96 (View.readAt (Elt F) M9.view (Rect.unit (s := S420x224x96) (k0_off2 i (BitVec.ofNat 32 (h % 28))) S1x224x96.size
    (k0_off2_inb i hc5 ⟨h % 28, Nat.mod_lt h (by decide)⟩)).toLoadRect f9) shapeCasts_S1x224x96_S224x96

/-- A halo row, from its own staged block. -/
def haloRow (M : Memref sig .tc .vmem S1x1x224x96 .f32) (f : Bf (F := F) c M) : FVec F S224x96 .f32 :=
  shapeCast S224x96 (View.readAt (Elt F) M.view (Rect.unit (s := S1x1x224x96) ![0, 0, 0, 0] S1x1x224x96.size inb_S1x1x224x96_S1x1x224x96_0_0_0_0).toLoadRect f)
    shapeCasts_S1x1x224x96_S224x96

/-- The smallest element so far, -/
def word0 : F .f32 := View.readAt (Elt F) M11.view (Rect.unit (s := S2) ![0] S1.size inb_S2_S1_0).toLoadRect f11 (Shape.Idx.first (by decide))
/-- and the largest. -/
def word1 : F .f32 := View.readAt (Elt F) M11.view (Rect.unit (s := S2) ![1] S1.size inb_S2_S1_1).toLoadRect f11 (Shape.Idx.first (by decide))
/-- The table, -/
def table : Vec F S8x96 .f32 := View.readAt (Elt F) M6.view (Rect.unit (s := S8x96) ![0, 0] S8x96.size inb_S8x96_S8x96_0_0).toLoadRect f6
/-- and the weights. -/
def weights : Vec F S3x3x96 .f32 := View.readAt (Elt F) M7.view (Rect.unit (s := S3x3x96) ![0, 0, 0] S3x3x96.size inb_S3x3x96_S3x3x96_0_0_0).toLoadRect f7

/-- The ring's rows, as functions of what the buffers hold: the middle rows are `mid`. -/
def rowsOf (mid : ℕ → FVec F S224x96 .f32) : ℕ → FVec F S1x226x96 .f32 :=
  ringRow (word0 c M11 f11) (binw (word0 c M11 f11) (word1 c M11 f11)) (table c M6 f6) (BitVec.ofNat 32 (i 2)) (haloRow c M4 f4) (haloRow c M5 f5) mid

end Cert.KernelIdeal.Proof
end
-- ==== Proof.StreamedValue.lean ====
/-
  What the streamed second pass leaves in the result's block: twenty-eight rows, each the convolution of three ring slots.
-/
module

public import proofs.«01_k».proof.Proof.Streamed
public import proofs.«01_k».proof.Proof.Rows

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords)
    (M3 : Memref sig .tc .vmem S1x28x224x96 .f32) (M4 : Memref sig .tc .vmem S1x1x224x96 .f32)
    (M5 : Memref sig .tc .vmem S1x1x224x96 .f32) (M6 : Memref sig .tc .vmem S8x96 .f32)
    (M7 : Memref sig .tc .vmem S3x3x96 .f32) (M10 : Memref sig .tc .vmem S4x226x96 .f32) (M11 : Memref sig .tc .smem S2 .f32)
    (f3 : Bf (F := F) c M3) (f4 : Bf (F := F) c M4) (f5 : Bf (F := F) c M5) (f6 : Bf (F := F) c M6) (f7 : Bf (F := F) c M7)
    (f11 : Bf (F := F) c M11)

open streamedRun.sl in
/-- The lists of stores the ring goes through, newest first. -/
def streamedRings : List (List (RingPiece F)) :=
  [H10_30 c i M3 M4 M5 M6 M11 f3 f4 f5 f6 f11,
   H10_29 c i M3 M4 M6 M11 f3 f4 f6 f11,
   H10_28 c i M3 M4 M6 M11 f3 f4 f6 f11,
   H10_27 c i M3 M4 M6 M11 f3 f4 f6 f11,
   H10_26 c i M3 M4 M6 M11 f3 f4 f6 f11,
   H10_25 c i M3 M4 M6 M11 f3 f4 f6 f11,
   H10_24 c i M3 M4 M6 M11 f3 f4 f6 f11,
   H10_23 c i M3 M4 M6 M11 f3 f4 f6 f11,
   H10_22 c i M3 M4 M6 M11 f3 f4 f6 f11,
   H10_21 c i M3 M4 M6 M11 f3 f4 f6 f11,
   H10_20 c i M3 M4 M6 M11 f3 f4 f6 f11,
   H10_19 c i M3 M4 M6 M11 f3 f4 f6 f11,
   H10_18 c i M3 M4 M6 M11 f3 f4 f6 f11,
   H10_17 c i M3 M4 M6 M11 f3 f4 f6 f11,
   H10_16 c i M3 M4 M6 M11 f3 f4 f6 f11,
   H10_15 c i M3 M4 M6 M11 f3 f4 f6 f11,
   H10_14 c i M3 M4 M6 M11 f3 f4 f6 f11,
   H10_13 c i M3 M4 M6 M11 f3 f4 f6 f11,
   H10_12 c i M3 M4 M6 M11 f3 f4 f6 f11,
   H10_11 c i M3 M4 M6 M11 f3 f4 f6 f11,
   H10_10 c i M3 M4 M6 M11 f3 f4 f6 f11,
   H10_9 c i M3 M4 M6 M11 f3 f4 f6 f11,
   H10_8 c i M3 M4 M6 M11 f3 f4 f6 f11,
   H10_7 c i M3 M4 M6 M11 f3 f4 f6 f11,
   H10_6 c i M3 M4 M6 M11 f3 f4 f6 f11,
   H10_5 c i M3 M4 M6 M11 f3 f4 f6 f11,
   H10_4 c i M3 M4 M6 M11 f3 f4 f6 f11,
   H10_3 c i M3 M4 M6 M11 f3 f4 f6 f11,
   H10_2 c i M3 M4 M6 M11 f3 f4 f6 f11,
   H10_1 c i M4 M6 M11 f4 f6 f11]

/-- Each list holds one more padded row than the one before. -/
theorem streamed_ring : Ringed (rowsOf c i M4 M5 M6 M11 f4 f5 f6 f11 (blockRow c M3 f3)) 30 (streamedRings c i M3 M4 M5 M6 M11 f3 f4 f5 f6 f11) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The output rows, each from the ring as it stood when the row was computed. -/
theorem streamed_out : streamedRun.sl.H8_28 c i M3 M4 M5 M6 M7 M10 M11 f3 f4 f5 f6 f7 f11
    = outList (fun h => convRow (weights c M7 f7) fun dh dw =>
        M10.view.readCov (((streamedRings c i M3 M4 M5 M6 M11 f3 f4 f5 f6 f11).drop (27 - h)).headD []) (slotFrom (h + dh) dw).toLoadRect) 28 := rfl

end Cert.KernelIdeal.Proof
end
-- ==== Proof.Cached.lean ====
/-
  The kernel's second pass over a block whose rows it kept in the cache during the first: the body run once, at symbolic
  memrefs and contents.
-/
module

public import proofs.«01_k».proof.Proof.Common

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the result's block and the row ring, with the proof that it runs there. -/
noncomputable def cachedRun (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (hc1 : ¬ k0_cond1 i = 1#1) (hc5 : k0_cond5 i = 1#1) (hc6 : ¬ k0_cond6 i = 1#1)
    (f3 : Bf (F := F) c M3) (f4 : Bf (F := F) c M4) (f5 : Bf (F := F) c M5) (f6 : Bf (F := F) c M6) (f7 : Bf (F := F) c M7)
    (f9 : Bf (F := F) c M9) (f11 : Bf (F := F) c M11) :
    { W : Bf (F := F) c M8 //
      ∀ (f8 : Bf (F := F) c M8) (f10 : Bf (F := F) c M10) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M3 f3 ∗ pt c M4 f4 ∗ pt c M5 f5 ∗ pt c M6 f6 ∗ pt c M7 f7 ∗ pt c M8 W ∗ pt c M9 f9 ∗ (∃ f, pt c M10 f) ∗ pt c M11 f11) -∗ Q ⟨⟩))
        ⊢ wp frame (wpE (defs₀ (F := F)) Variants.none c none) E
            (cc0__fused_kernel i M3 h3 M4 h4 M5 h5 M6 h6 M7 h7 M8 h8 M9 h9 M10 h10 M11 h11) Q } := by
  refine ⟨?_, fun f8 f10 E Q => ?run⟩
  case run =>
    iintro ⟨H3, H4, H5, H6, H7, H8, H9, H10, H11, Hk⟩
    sl_exec_parts!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexact H11

end Cert.KernelIdeal.Proof

end
-- ==== Proof.CachedValue.lean ====
/-
  What the cached second pass leaves in the result's block: twenty-eight rows, each the convolution of three ring slots.
-/
module

public import proofs.«01_k».proof.Proof.Cached
public import proofs.«01_k».proof.Proof.Rows

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords)
    (M4 : Memref sig .tc .vmem S1x1x224x96 .f32)
    (M5 : Memref sig .tc .vmem S1x1x224x96 .f32) (M6 : Memref sig .tc .vmem S8x96 .f32)
    (M7 : Memref sig .tc .vmem S3x3x96 .f32) (M9 : Memref sig .tc .vmem S420x224x96 .f32) (M10 : Memref sig .tc .vmem S4x226x96 .f32) (M11 : Memref sig .tc .smem S2 .f32)
    (f4 : Bf (F := F) c M4) (f5 : Bf (F := F) c M5) (f6 : Bf (F := F) c M6) (f7 : Bf (F := F) c M7)
    (f9 : Bf (F := F) c M9) (f11 : Bf (F := F) c M11) (hc5 : k0_cond5 i = 1#1)

open cachedRun.sl in
/-- The lists of stores the ring goes through, newest first. -/
def cachedRings : List (List (RingPiece F)) :=
  [H10_30 c i M4 M5 M6 M9 M11 hc5 f4 f5 f6 f9 f11,
   H10_29 c i M4 M6 M9 M11 hc5 f4 f6 f9 f11,
   H10_28 c i M4 M6 M9 M11 hc5 f4 f6 f9 f11,
   H10_27 c i M4 M6 M9 M11 hc5 f4 f6 f9 f11,
   H10_26 c i M4 M6 M9 M11 hc5 f4 f6 f9 f11,
   H10_25 c i M4 M6 M9 M11 hc5 f4 f6 f9 f11,
   H10_24 c i M4 M6 M9 M11 hc5 f4 f6 f9 f11,
   H10_23 c i M4 M6 M9 M11 hc5 f4 f6 f9 f11,
   H10_22 c i M4 M6 M9 M11 hc5 f4 f6 f9 f11,
   H10_21 c i M4 M6 M9 M11 hc5 f4 f6 f9 f11,
   H10_20 c i M4 M6 M9 M11 hc5 f4 f6 f9 f11,
   H10_19 c i M4 M6 M9 M11 hc5 f4 f6 f9 f11,
   H10_18 c i M4 M6 M9 M11 hc5 f4 f6 f9 f11,
   H10_17 c i M4 M6 M9 M11 hc5 f4 f6 f9 f11,
   H10_16 c i M4 M6 M9 M11 hc5 f4 f6 f9 f11,
   H10_15 c i M4 M6 M9 M11 hc5 f4 f6 f9 f11,
   H10_14 c i M4 M6 M9 M11 hc5 f4 f6 f9 f11,
   H10_13 c i M4 M6 M9 M11 hc5 f4 f6 f9 f11,
   H10_12 c i M4 M6 M9 M11 hc5 f4 f6 f9 f11,
   H10_11 c i M4 M6 M9 M11 hc5 f4 f6 f9 f11,
   H10_10 c i M4 M6 M9 M11 hc5 f4 f6 f9 f11,
   H10_9 c i M4 M6 M9 M11 hc5 f4 f6 f9 f11,
   H10_8 c i M4 M6 M9 M11 hc5 f4 f6 f9 f11,
   H10_7 c i M4 M6 M9 M11 hc5 f4 f6 f9 f11,
   H10_6 c i M4 M6 M9 M11 hc5 f4 f6 f9 f11,
   H10_5 c i M4 M6 M9 M11 hc5 f4 f6 f9 f11,
   H10_4 c i M4 M6 M9 M11 hc5 f4 f6 f9 f11,
   H10_3 c i M4 M6 M9 M11 hc5 f4 f6 f9 f11,
   H10_2 c i M4 M6 M9 M11 hc5 f4 f6 f9 f11,
   H10_1 c i M4 M6 M11 f4 f6 f11]

/-- Each list holds one more padded row than the one before. -/
theorem cached_ring : Ringed (rowsOf c i M4 M5 M6 M11 f4 f5 f6 f11 (cachedRow c i M9 f9 hc5)) 30 (cachedRings c i M4 M5 M6 M9 M11 f4 f5 f6 f9 f11 hc5) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The output rows, each from the ring as it stood when the row was computed. -/
theorem cached_out : cachedRun.sl.H8_28 c i M4 M5 M6 M7 M9 M10 M11 hc5 f4 f5 f6 f7 f9 f11
    = outList (fun h => convRow (weights c M7 f7) fun dh dw =>
        M10.view.readCov (((cachedRings c i M4 M5 M6 M9 M11 f4 f5 f6 f9 f11 hc5).drop (27 - h)).headD []) (slotFrom (h + dh) dw).toLoadRect) 28 := rfl

end Cert.KernelIdeal.Proof
end
-- ==== Proof.First.lean ====
/-
  The kernel's first pass: at the first point, at the other points whose rows the cache keeps, and at the rest.
-/
module

public import proofs.«01_k».proof.Proof.Common

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The bit set at the first point of the pass, -/
abbrev firstPoint (i : grid0.Coords) : BitVec 1 :=
  Scalar.cmpi .ne (Scalar.extui (Scalar.andi (Scalar.cmpi .eq (BitVec.ofNat 32 (i 1).val) 0#32) (Scalar.cmpi .eq (BitVec.ofNat 32 (i 2).val) 0#32)) : BitVec 32) 0#32
/-- and the bit set at the others. -/
abbrev laterPoint (i : grid0.Coords) : BitVec 1 :=
  Scalar.cmpi .ne (Scalar.extui (Scalar.xori (Scalar.andi (Scalar.cmpi .eq (BitVec.ofNat 32 (i 1).val) 0#32) (Scalar.cmpi .eq (BitVec.ofNat 32 (i 2).val) 0#32)) 1#1) : BitVec 32) 0#32

/-- The first point: the two words set, the block put in the cache. -/
noncomputable def initRun (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (hc1 : k0_cond1 i = 1#1) (h2 : firstPoint i = 1#1) (h3' : ¬ laterPoint i = 1#1)
    (hc4 : k0_cond4 i = 1#1) (hc5 : ¬ k0_cond5 i = 1#1) (hc6 : ¬ k0_cond6 i = 1#1)
    (f3 : Bf (F := F) c M3) (f9 : Bf (F := F) c M9) (f11 : Bf (F := F) c M11) :
    { W : Bf (F := F) c M9 × Bf (F := F) c M11 //
      ∀ (E : Set ℕ) (Q : PUnit → sProp 𝕄),
        iprop(pt c M3 f3 ∗ pt c M9 f9 ∗ pt c M11 f11 ∗ (iprop(pt c M3 f3 ∗ pt c M9 W.1 ∗ pt c M11 W.2) -∗ Q ⟨⟩))
        ⊢ wp frame (wpE (defs₀ (F := F)) Variants.none c none) E
            (cc0__fused_kernel i M3 h3 M4 h4 M5 h5 M6 h6 M7 h7 M8 h8 M9 h9 M10 h10 M11 h11) Q } := by
  refine ⟨⟨?_, ?_⟩, fun E Q => ?run⟩
  case run =>
    iintro ⟨H3, H9, H11, Hk⟩
    sl_exec!
    sl_step
    iapply Hk
    isplitl [H3]; · iexact H3
    isplitl [H9]; · iexact H9
    iexact H11

/-- A later point: the two words updated, the block put in the cache. -/
noncomputable def fillRun (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (hc1 : k0_cond1 i = 1#1) (h2 : ¬ firstPoint i = 1#1) (h3' : laterPoint i = 1#1)
    (hc4 : k0_cond4 i = 1#1) (hc5 : ¬ k0_cond5 i = 1#1) (hc6 : ¬ k0_cond6 i = 1#1)
    (f3 : Bf (F := F) c M3) (f9 : Bf (F := F) c M9) (f11 : Bf (F := F) c M11) :
    { W : Bf (F := F) c M9 × Bf (F := F) c M11 //
      ∀ (E : Set ℕ) (Q : PUnit → sProp 𝕄),
        iprop(pt c M3 f3 ∗ pt c M9 f9 ∗ pt c M11 f11 ∗ (iprop(pt c M3 f3 ∗ pt c M9 W.1 ∗ pt c M11 W.2) -∗ Q ⟨⟩))
        ⊢ wp frame (wpE (defs₀ (F := F)) Variants.none c none) E
            (cc0__fused_kernel i M3 h3 M4 h4 M5 h5 M6 h6 M7 h7 M8 h8 M9 h9 M10 h10 M11 h11) Q } := by
  refine ⟨⟨?_, ?_⟩, fun E Q => ?run⟩
  case run =>
    iintro ⟨H3, H9, H11, Hk⟩
    sl_exec!
    sl_step
    iapply Hk
    isplitl [H3]; · iexact H3
    isplitl [H9]; · iexact H9
    iexact H11

/-- A point past the cache: the two words updated. -/
noncomputable def scanRun (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (hc1 : k0_cond1 i = 1#1) (h2 : ¬ firstPoint i = 1#1) (h3' : laterPoint i = 1#1)
    (hc4 : ¬ k0_cond4 i = 1#1) (hc5 : ¬ k0_cond5 i = 1#1) (hc6 : ¬ k0_cond6 i = 1#1)
    (f3 : Bf (F := F) c M3) (f9 : Bf (F := F) c M9) (f11 : Bf (F := F) c M11) :
    { W : Bf (F := F) c M9 × Bf (F := F) c M11 //
      ∀ (E : Set ℕ) (Q : PUnit → sProp 𝕄),
        iprop(pt c M3 f3 ∗ pt c M9 f9 ∗ pt c M11 f11 ∗ (iprop(pt c M3 f3 ∗ pt c M9 W.1 ∗ pt c M11 W.2) -∗ Q ⟨⟩))
        ⊢ wp frame (wpE (defs₀ (F := F)) Variants.none c none) E
            (cc0__fused_kernel i M3 h3 M4 h4 M5 h5 M6 h6 M7 h7 M8 h8 M9 h9 M10 h10 M11 h11) Q } := by
  refine ⟨⟨?_, ?_⟩, fun E Q => ?run⟩
  case run =>
    iintro ⟨H3, H9, H11, Hk⟩
    sl_exec!
    sl_step
    iapply Hk
    isplitl [H3]; · iexact H3
    isplitl [H9]; · iexact H9
    iexact H11

end Cert.KernelIdeal.Proof

end
-- ==== Proof.Ring.lean ====
/-
  What the ring's slots hold when an output row is computed, and the output block the rows make up.
-/
module

public import proofs.«01_k».proof.Proof.Row
public import Idealize.ShloMosaic.Lib.Pipeline.ReadBack
public import Idealize.ShloMosaic.Lib.Pipeline.FrameBody
public import Idealize.ShloMosaic.Lib.PointwiseCore

@[expose] public section

set_option maxRecDepth 16384

noncomputable section

namespace Cert.KernelIdeal.Proof

open Cert.KernelIdeal Cert.KernelIdeal.Gen
open Idealize.ShloMosaic Idealize.ShloMosaic.TcCoe
open Idealize.ShloMosaic.View (canon)

variable {F : FTy → Type} [FloatOps F]

/-- A padded row from column `d` on. -/
def shifted (p : FVec F S1x226x96 .f32) (d : ℕ) : Vec F S1x224x96 .f32 :=
  fun j => p (ix3 0 ⟨(j 1).val + d % 3, by have := (j 1).isLt; have := Nat.mod_lt d (by decide : 0 < 3); simp [S1x224x96] at *; omega⟩ (j 2))

/-- The output block: row `h` is the convolution of the padded rows `h`, `h + 1` and `h + 2`. -/
def outBlk (w : Vec F S3x3x96 .f32) (P : ℕ → FVec F S1x226x96 .f32) : Vec F S1x28x224x96 .f32 :=
  fun y => convRow w (fun dh dw => shifted (P ((y 1).val + dh)) dw) (ix4 0 0 (y 2) (y 3))

/-- The last `k` stores taken off. -/
theorem Ringed.drop {P : ℕ → FVec F S1x226x96 .f32} {n : ℕ} : ∀ (k : ℕ) {Ls : List (List (RingPiece F))}, Ringed P (n + k) Ls → Ringed P n (Ls.drop k)
  | 0, _, h => h
  | _ + 1, [], h => h.elim
  | k + 1, _ :: _, h => Ringed.drop k h.2

/-- One of the last four rows stored, read back. -/
theorem canon_ring {P : ℕ → FVec F S1x226x96 .f32} {r : ℕ} (z : S4x226x96.Idx) (hz : (z 0).val = r % 4) :
    ∀ {n : ℕ} {Ls : List (List (RingPiece F))}, Ringed P n Ls → r < n → n ≤ r + 4 → canon (Ls.headD []) z = P r (ix3 0 (z 1) (z 2))
  | n + 1, L :: Ls, h, hr, hn => by
    rw [List.headD_cons, h.1]
    by_cases he : r = n
    · subst he
      have hz' : z = (slot r).emb (ix3 (0 : Fin 1) (z 1) (z 2) : S1x226x96.Idx) := by
        funext a
        apply Fin.ext
        fin_cases a
        · show (z 0).val = r % 4 + 1 * 0; omega
        · show (z 1).val = 0 + 1 * (z 1).val; omega
        · show (z 2).val = 0 + 1 * (z 2).val; omega
      conv_lhs => rw [hz']
      exact View.canon_cons_emb (Val := Elt F) (e := .f32) (slot r) (P r) _ _
    · rw [View.canon_cons_of_not_mem]
      · exact canon_ring z hz h.2 (by omega) (by omega)
      · show z ∉ (slot n).set
        unfold slot
        rw [Rect.mem_set_unit]
        intro H
        have h0 : n % 4 ≤ (z 0).val ∧ (z 0).val < n % 4 + 1 := H 0
        omega

/-- A load of one of the last four rows. -/
theorem readCov_ring {P : ℕ → FVec F S1x226x96 .f32} {r n d : ℕ} {Ls : List (List (RingPiece F))} (h : Ringed P n Ls) (hr : r < n) (hn : n ≤ r + 4)
    (hd : d < 3) {sp : Space} (v : View sig .tc sp S4x226x96 .f32) :
    v.readCov (Ls.headD []) (slotFrom r d).toLoadRect = shifted (P r) d := by
  rw [View.readCov_eq_canon']
  funext j
  rw [canon_ring (r := r) _ _ h hr hn]
  · show P r _ = P r _
    congr 1
    funext a
    apply Fin.ext
    fin_cases a
    · rfl
    · show d % 3 + 1 * (j 1).val = (j 1).val + d % 3; omega
    · show 0 + 1 * (j 2).val = (j 2).val; omega
  · have h0 : (j 0).val < 1 := (j 0).isLt
    show r % 4 + 1 * (j 0).val = r % 4
    omega

/-- The output block read back at an index its rows cover. -/
theorem canon_outList (Q : ℕ → FVec F S1x1x224x96 .f32) (y : S1x28x224x96.Idx) :
    ∀ n : ℕ, (y 1).val < n → n ≤ 28 → canon (outList Q n) y = Q (y 1).val (ix4 0 0 (y 2) (y 3))
  | n + 1, hy, hn => by
    by_cases he : (y 1).val = n
    · have hy' : y = (outRect n).emb (ix4 (0 : Fin 1) (0 : Fin 1) (y 2) (y 3) : S1x1x224x96.Idx) := by
        have h0 : (y 0).val < 1 := (y 0).isLt
        funext a
        apply Fin.ext
        fin_cases a
        · show (y 0).val = 0 + 1 * 0; omega
        · show (y 1).val = n % 28 + 1 * 0; omega
        · show (y 2).val = 0 + 1 * (y 2).val; omega
        · show (y 3).val = 0 + 1 * (y 3).val; omega
      rw [he]
      conv_lhs => rw [hy']
      exact View.canon_cons_emb (Val := Elt F) (e := .f32) (outRect n) (Q n) _ _
    · rw [show outList Q (n + 1) = (⟨outRect n, Q n⟩ : OutPiece F) :: outList Q n from rfl, View.canon_cons_of_not_mem]
      · exact canon_outList Q y n (by omega) (by omega)
      · show y ∉ (outRect n).set
        unfold outRect
        rw [Rect.mem_set_unit]
        intro H
        have h0 : n % 28 ≤ (y 1).val ∧ (y 1).val < n % 28 + 1 := H 1
        omega

/-- An output row depends on its nine loads only. -/
theorem convRow_congr (w : Vec F S3x3x96 .f32) {t t' : ℕ → ℕ → Vec F S1x224x96 .f32} (h : ∀ dh < 3, ∀ dw < 3, t dh dw = t' dh dw) :
    convRow w t = convRow w t' := by
  unfold convRow
  rw [h 0 (by omega) 0 (by omega), h 0 (by omega) 1 (by omega), h 0 (by omega) 2 (by omega), h 1 (by omega) 0 (by omega),
    h 1 (by omega) 1 (by omega), h 1 (by omega) 2 (by omega), h 2 (by omega) 0 (by omega), h 2 (by omega) 1 (by omega), h 2 (by omega) 2 (by omega)]

/-- The output block of the whole pass over a block's rows. -/
theorem canon_out {P : ℕ → FVec F S1x226x96 .f32} {Ls : List (List (RingPiece F))} (h : Ringed P 30 Ls) (w : Vec F S3x3x96 .f32)
    {sp : Space} (v : View sig .tc sp S4x226x96 .f32) :
    canon (outList (fun h => convRow w fun dh dw => v.readCov ((Ls.drop (27 - h)).headD []) (slotFrom (h + dh) dw).toLoadRect) 28) = outBlk w P := by
  funext y
  have hy : (y 1).val < 28 := (y 1).isLt
  rw [canon_outList _ _ _ hy le_rfl]
  refine congrFun (convRow_congr w fun dh hdh dw hdw => ?_) _
  have h' : Ringed P ((y 1).val + 3) (Ls.drop (27 - (y 1).val)) := Ringed.drop _ (by rwa [show (y 1).val + 3 + (27 - (y 1).val) = 30 by omega])
  exact readCov_ring h' (by omega) (by omega) hdw v

end Cert.KernelIdeal.Proof

end
-- ==== Proof.Blocks.lean ====
/-
  The body's runs as functions of the blocks their buffers hold: the second pass's output block, and what the first pass
  leaves in the two words and the cache.
-/
module

public import proofs.«01_k».proof.Proof.StreamedValue
public import proofs.«01_k».proof.Proof.CachedValue
public import proofs.«01_k».proof.Proof.First
public import proofs.«01_k».proof.Proof.Ring
public import Idealize.ShloMosaic.Lib.WritesUnit

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (canon)

variable {F : FTy → Type} [FloatOps F]

/-- Row `h` of a block; -/
def midOf (x : Vec F S1x28x224x96 .f32) (h : ℕ) : FVec F S224x96 .f32 :=
  fun j => x (ix4 0 ⟨h % 28, Nat.mod_lt h (by decide)⟩ (j 0) (j 1))
/-- the one row of a halo block. -/
def haloOf (x : Vec F S1x1x224x96 .f32) : FVec F S224x96 .f32 := fun j => x (ix4 0 0 (j 0) (j 1))

/-- The output block of a point: from the smallest and largest element, the table, the weights, the point's number in its
    image, the halo rows and the block. -/
def blockOut (mn mx : F .f32) (co : Vec F S8x96 .f32) (w : Vec F S3x3x96 .f32) (i2 : BitVec 32) (top bot : Vec F S1x1x224x96 .f32)
    (x : Vec F S1x28x224x96 .f32) : Vec F S1x28x224x96 .f32 :=
  outBlk w (ringRow mn (binw mn mx) co i2 (haloOf top) (haloOf bot) (midOf x))

section Reads

variable (c : Dev nD) (i : grid0.Coords)
    (M3 : Memref sig .tc .vmem S1x28x224x96 .f32) (M4 : Memref sig .tc .vmem S1x1x224x96 .f32) (M6 : Memref sig .tc .vmem S8x96 .f32)
    (M7 : Memref sig .tc .vmem S3x3x96 .f32) (M9 : Memref sig .tc .vmem S420x224x96 .f32) (M11 : Memref sig .tc .smem S2 .f32)
    (f3 : Bf (F := F) c M3) (f4 : Bf (F := F) c M4) (f6 : Bf (F := F) c M6) (f7 : Bf (F := F) c M7)
    (f9 : Bf (F := F) c M9) (f11 : Bf (F := F) c M11)

omit [FloatOps F] in
/-- A row's two leading unit axes dropped; -/
theorem row_cast (X : FVec F S1x1x224x96 .f32) : shapeCast S224x96 X shapeCasts_S1x1x224x96_S224x96 = haloOf X := by
  funext j
  unfold haloOf
  pointwise

omit [FloatOps F] in
/-- a cached row's one. -/
theorem line_cast (X : FVec F S1x224x96 .f32) : shapeCast S224x96 X shapeCasts_S1x224x96_S224x96 = fun j => X (ix3 0 (j 0) (j 1)) := by
  funext j
  pointwise

omit [FloatOps F] in
theorem blockRow_eq : blockRow c M3 f3 = midOf (M3.view.read (Elt F) f3) := by
  funext h
  refine (row_cast _).trans ?_
  funext j
  refine congrArg (M3.view.read (Elt F) f3) (funext fun a => Fin.ext ?_)
  match a with
  | 0 => rfl
  | 1 => exact Nat.add_zero _
  | 2 => exact (Nat.zero_add _).trans (Nat.one_mul _)
  | 3 => exact (Nat.zero_add _).trans (Nat.one_mul _)

omit [FloatOps F] in
theorem haloRow_eq : haloRow c M4 f4 = haloOf (M4.view.read (Elt F) f4) := by
  funext j
  unfold haloRow haloOf
  pointwise
  rw [View.readAt_eq_ld]
  refine congrArg (M4.view.read (Elt F) f4) (funext fun a => Fin.ext ?_)
  fin_cases a
  · rfl
  · rfl
  · show 0 + 1 * (j 0).val = (j 0).val; omega
  · show 0 + 1 * (j 1).val = (j 1).val; omega

omit [FloatOps F] in
/-- A cached row is the block's, where the cache holds the block. -/
theorem cachedRow_eq (hc5 : k0_cond5 i = 1#1) (x : Vec F S1x28x224x96 .f32)
    (hx : ∀ (a : Fin 28) (y : S420x224x96.Idx), (y 0).val = 224 * (i 1).val + 28 * (i 2).val + a.val → M9.view.read (Elt F) f9 y = x (ix4 0 a (y 1) (y 2))) :
    cachedRow c i M9 f9 hc5 = midOf x := by
  funext h
  refine (line_cast _).trans ?_
  funext j
  have ho : ∀ a, k0_off2 i (BitVec.ofNat 32 (h % 28)) a = (![224 * (i 1).val + 28 * (i 2).val + h % 28, 0, 0] : Fin 3 → ℕ) a :=
    fun a => congrFun (k0_off2_eq i ⟨h % 28, Nat.mod_lt h (by decide)⟩) a
  refine (hx ⟨h % 28, Nat.mod_lt h (by decide)⟩ _ ((Nat.add_zero _).trans (ho 0))).trans (congrArg x (funext fun a => Fin.ext ?_))
  match a with
  | 0 => rfl
  | 1 => rfl
  | 2 => exact (congrArg₂ (· + ·) (ho 1) (Nat.one_mul _)).trans (Nat.zero_add _)
  | 3 => exact (congrArg₂ (· + ·) (ho 2) (Nat.one_mul _)).trans (Nat.zero_add _)

omit [FloatOps F] in
theorem table_eq : table c M6 f6 = M6.view.read (Elt F) f6 := by
  unfold table
  rw [View.readAt_eq_ld]
  funext j
  refine congrArg (M6.view.read (Elt F) f6) (funext fun a => Fin.ext ?_)
  fin_cases a
  · show 0 + 1 * (j 0).val = (j 0).val; omega
  · show 0 + 1 * (j 1).val = (j 1).val; omega

omit [FloatOps F] in
theorem weights_eq : weights c M7 f7 = M7.view.read (Elt F) f7 := by
  unfold weights
  rw [View.readAt_eq_ld]
  funext j
  refine congrArg (M7.view.read (Elt F) f7) (funext fun a => Fin.ext ?_)
  fin_cases a
  · show 0 + 1 * (j 0).val = (j 0).val; omega
  · show 0 + 1 * (j 1).val = (j 1).val; omega
  · show 0 + 1 * (j 2).val = (j 2).val; omega

omit [FloatOps F] in
/-- A whole-block load. -/
theorem block_eq : View.readAt (Elt F) M3.view (Rect.unit (s := S1x28x224x96) ![0, 0, 0, 0] S1x28x224x96.size inb_S1x28x224x96_S1x28x224x96_0_0_0_0).toLoadRect f3
    = M3.view.read (Elt F) f3 := by
  rw [View.readAt_eq_ld]
  funext j
  refine congrArg (M3.view.read (Elt F) f3) (funext fun a => Fin.ext ?_)
  fin_cases a
  · show 0 + 1 * (j 0).val = (j 0).val; omega
  · show 0 + 1 * (j 1).val = (j 1).val; omega
  · show 0 + 1 * (j 2).val = (j 2).val; omega
  · show 0 + 1 * (j 3).val = (j 3).val; omega

/-- The two words after they are stored. -/
theorem word0_stored (a b : F .f32) : word0 c M11 (M11.view.writes (Elt F) M11.view.junk
    [⟨Rect.unit (s := S2) ![1] S1.size inb_S2_S1_1, fun _ => b⟩, ⟨Rect.unit (s := S2) ![0] S1.size inb_S2_S1_0, fun _ => a⟩]) = a := by
  unfold word0
  rw [View.readAt_eq_ld]
  refine (View.read_writes_cons_unit_of_not_mem _ _ _ _ _ _ rfl 0 (.inl ?_)).trans (View.read_writes_cons_unit_of_mem _ _ _ _ _ _ (fun a => ⟨0, by fin_cases a; decide⟩) rfl ?_)
  · show 0 + 1 * 0 < 1; omega
  · intro k; fin_cases k; rfl
theorem word1_stored (a b : F .f32) : word1 c M11 (M11.view.writes (Elt F) M11.view.junk
    [⟨Rect.unit (s := S2) ![1] S1.size inb_S2_S1_1, fun _ => b⟩, ⟨Rect.unit (s := S2) ![0] S1.size inb_S2_S1_0, fun _ => a⟩]) = b := by
  unfold word1
  rw [View.readAt_eq_ld]
  refine View.read_writes_cons_unit_of_mem _ _ _ _ _ _ (fun a => ⟨0, by fin_cases a; decide⟩) rfl ?_
  intro k; fin_cases k; rfl

/-- The cache after a block is put in: the block's rows there, -/
theorem cache_stored (h1 : k0_cond1 i = 1#1) (h4 : k0_cond4 i = 1#1) (x : Vec F S1x28x224x96 .f32) (a : Fin 28) (y : S420x224x96.Idx)
    (hy : (y 0).val = 224 * (i 1).val + 28 * (i 2).val + a.val) :
    M9.view.read (Elt F) (M9.view.writes (Elt F) f9 [⟨Rect.unit (s := S420x224x96) (k0_off1 i) S28x224x96.size (k0_off1_inb i h1 h4), k0_pay6 x⟩]) y = x (ix4 0 a (y 1) (y 2)) := by
  refine (View.read_writes_cons_unit_of_mem _ _ _ _ _ y (ix3 a (y 1) (y 2) : S28x224x96.Idx) (k0_off1_eq i) ?_).trans ?_
  · intro k; fin_cases k
    · exact hy
    · show (y 1).val = 0 + (y 1).val; omega
    · show (y 2).val = 0 + (y 2).val; omega
  · unfold k0_pay6 k0_pay1
    pointwise

/-- and the other rows as they were. -/
theorem cache_kept (h1 : k0_cond1 i = 1#1) (h4 : k0_cond4 i = 1#1) (x : FVec F S28x224x96 .f32) (y : S420x224x96.Idx)
    (hy : (y 0).val < 224 * (i 1).val + 28 * (i 2).val) :
    M9.view.read (Elt F) (M9.view.writes (Elt F) f9 [⟨Rect.unit (s := S420x224x96) (k0_off1 i) S28x224x96.size (k0_off1_inb i h1 h4), x⟩]) y = M9.view.read (Elt F) f9 y :=
  View.read_writes_cons_unit_of_not_mem _ _ _ _ _ y (k0_off1_eq i) 0 (.inl hy)

end Reads

section Runs

variable (c : Dev nD) (i : grid0.Coords)
    (M3 : Memref sig .tc .vmem S1x28x224x96 .f32) (h3 : M3.IsWhole) (M4 : Memref sig .tc .vmem S1x1x224x96 .f32) (h4 : M4.IsWhole)
    (M5 : Memref sig .tc .vmem S1x1x224x96 .f32) (h5 : M5.IsWhole) (M6 : Memref sig .tc .vmem S8x96 .f32) (h6 : M6.IsWhole)
    (M7 : Memref sig .tc .vmem S3x3x96 .f32) (h7 : M7.IsWhole) (M8 : Memref sig .tc .vmem S1x28x224x96 .f32) (h8 : M8.IsWhole)
    (M9 : Memref sig .tc .vmem S420x224x96 .f32) (h9 : M9.IsWhole) (M10 : Memref sig .tc .vmem S4x226x96 .f32) (h10 : M10.IsWhole)
    (M11 : Memref sig .tc .smem S2 .f32) (h11 : M11.IsWhole)
    (f3 : Bf (F := F) c M3) (f4 : Bf (F := F) c M4) (f5 : Bf (F := F) c M5) (f6 : Bf (F := F) c M6) (f7 : Bf (F := F) c M7)
    (f9 : Bf (F := F) c M9) (f11 : Bf (F := F) c M11)

/-- The output block of a streamed point. -/
theorem streamed_read (hc1 : ¬ k0_cond1 i = 1#1) (hc5 : ¬ k0_cond5 i = 1#1) (hc6 : k0_cond6 i = 1#1) :
    M8.view.read (Elt F) (streamedRun c i M3 h3 M4 h4 M5 h5 M6 h6 M7 h7 M8 h8 M9 h9 M10 h10 M11 h11 hc1 hc5 hc6 f3 f4 f5 f6 f7 f9 f11).1
      = blockOut (word0 c M11 f11) (word1 c M11 f11) (M6.view.read (Elt F) f6) (M7.view.read (Elt F) f7) (BitVec.ofNat 32 (i 2)) (M4.view.read (Elt F) f4)
          (M5.view.read (Elt F) f5) (M3.view.read (Elt F) f3) := by
  dsimp only [streamedRun]
  rw [View.read_writes_junk_eq_canon, streamed_out, canon_out (streamed_ring c i M3 M4 M5 M6 M11 f3 f4 f5 f6 f11)]
  unfold rowsOf blockOut
  rw [blockRow_eq, haloRow_eq, haloRow_eq, table_eq, weights_eq]

/-- The output block of a cached point, where the cache holds the point's block. -/
theorem cached_read (hc1 : ¬ k0_cond1 i = 1#1) (hc5 : k0_cond5 i = 1#1) (hc6 : ¬ k0_cond6 i = 1#1) (x : Vec F S1x28x224x96 .f32)
    (hx : ∀ (a : Fin 28) (y : S420x224x96.Idx), (y 0).val = 224 * (i 1).val + 28 * (i 2).val + a.val → M9.view.read (Elt F) f9 y = x (ix4 0 a (y 1) (y 2))) :
    M8.view.read (Elt F) (cachedRun c i M3 h3 M4 h4 M5 h5 M6 h6 M7 h7 M8 h8 M9 h9 M10 h10 M11 h11 hc1 hc5 hc6 f3 f4 f5 f6 f7 f9 f11).1
      = blockOut (word0 c M11 f11) (word1 c M11 f11) (M6.view.read (Elt F) f6) (M7.view.read (Elt F) f7) (BitVec.ofNat 32 (i 2)) (M4.view.read (Elt F) f4)
          (M5.view.read (Elt F) f5) x := by
  dsimp only [cachedRun]
  rw [View.read_writes_junk_eq_canon, cached_out, canon_out (cached_ring c i M4 M5 M6 M9 M11 f4 f5 f6 f9 f11 hc5)]
  unfold rowsOf blockOut
  rw [cachedRow_eq c i M9 f9 hc5 x hx, haloRow_eq, haloRow_eq, table_eq, weights_eq]

variable (hc1 : k0_cond1 i = 1#1) (h2 : firstPoint i = 1#1) (h2' : ¬ firstPoint i = 1#1) (hl : laterPoint i = 1#1) (hl' : ¬ laterPoint i = 1#1)
  (hc4 : k0_cond4 i = 1#1) (hc4' : ¬ k0_cond4 i = 1#1) (hc5 : ¬ k0_cond5 i = 1#1) (hc6 : ¬ k0_cond6 i = 1#1)

/-- The first point leaves the block's smallest and largest element and the block in the cache. -/
theorem init_eq : (initRun c i M3 h3 M4 h4 M5 h5 M6 h6 M7 h7 M8 h8 M9 h9 M10 h10 M11 h11 hc1 h2 hl' hc4 hc5 hc6 f3 f9 f11).1
    = (M9.view.writes (Elt F) f9 [⟨Rect.unit (s := S420x224x96) (k0_off1 i) S28x224x96.size (k0_off1_inb i hc1 hc4), k0_pay6 (M3.view.read (Elt F) f3)⟩],
      M11.view.writes (Elt F) M11.view.junk [⟨Rect.unit (s := S2) ![1] S1.size inb_S2_S1_1, fun _ => k0_pay3 (M3.view.read (Elt F) f3)⟩,
        ⟨Rect.unit (s := S2) ![0] S1.size inb_S2_S1_0, fun _ => k0_pay2 (M3.view.read (Elt F) f3)⟩]) := by
  rw [← block_eq c M3 f3]
  rfl

/-- A later point updates the two words, and puts the block in the cache; -/
theorem fill_eq : (fillRun c i M3 h3 M4 h4 M5 h5 M6 h6 M7 h7 M8 h8 M9 h9 M10 h10 M11 h11 hc1 h2' hl hc4 hc5 hc6 f3 f9 f11).1
    = (M9.view.writes (Elt F) f9 [⟨Rect.unit (s := S420x224x96) (k0_off1 i) S28x224x96.size (k0_off1_inb i hc1 hc4), k0_pay6 (M3.view.read (Elt F) f3)⟩],
      M11.view.writes (Elt F) M11.view.junk [⟨Rect.unit (s := S2) ![1] S1.size inb_S2_S1_1, fun _ => k0_pay5 (M3.view.read (Elt F) f3) (word1 c M11 f11)⟩,
        ⟨Rect.unit (s := S2) ![0] S1.size inb_S2_S1_0, fun _ => k0_pay4 (M3.view.read (Elt F) f3) (word0 c M11 f11)⟩]) := by
  rw [← block_eq c M3 f3]
  rfl

/-- past the cache's blocks the words only. -/
theorem scan_eq : (scanRun c i M3 h3 M4 h4 M5 h5 M6 h6 M7 h7 M8 h8 M9 h9 M10 h10 M11 h11 hc1 h2' hl hc4' hc5 hc6 f3 f9 f11).1
    = (f9, M11.view.writes (Elt F) M11.view.junk [⟨Rect.unit (s := S2) ![1] S1.size inb_S2_S1_1, fun _ => k0_pay5 (M3.view.read (Elt F) f3) (word1 c M11 f11)⟩,
        ⟨Rect.unit (s := S2) ![0] S1.size inb_S2_S1_0, fun _ => k0_pay4 (M3.view.read (Elt F) f3) (word0 c M11 f11)⟩]) := by
  rw [← block_eq c M3 f3]
  rfl

end Runs

end Cert.KernelIdeal.Proof

end
-- ==== Proof.Conds.lean ====
/-
  The grid's sixty-four points: which branches the body takes at each, where each window's block lies, and at which points the
  result's window is idle.
-/
module

public import proofs.«01_k».proof.Proof.First

@[expose] public section

set_option maxRecDepth 16384

noncomputable section

namespace Cert.KernelIdeal.Proof

open Cert.KernelIdeal Cert.KernelIdeal.Gen
open Idealize.ShloMosaic
open Idealize.ShloMosaic.TcCoe
open Idealize.SL

/-- The first pass; -/
theorem cond1_iff : ∀ t : Fin grid0.N, k0_cond1 (grid0.coords t) = 1#1 ↔ t.val < 32 := by decide +kernel
/-- its first point, -/
theorem first_iff : ∀ t : Fin grid0.N, firstPoint (grid0.coords t) = 1#1 ↔ t.val % 32 = 0 := by decide +kernel
/-- and the others; -/
theorem later_iff : ∀ t : Fin grid0.N, laterPoint (grid0.coords t) = 1#1 ↔ t.val % 32 ≠ 0 := by decide +kernel
/-- the blocks the cache has room for; -/
theorem cond4_iff : ∀ t : Fin grid0.N, k0_cond4 (grid0.coords t) = 1#1 ↔ t.val % 32 < 15 := by decide +kernel
/-- the second pass over those, -/
theorem cond5_iff : ∀ t : Fin grid0.N, k0_cond5 (grid0.coords t) = 1#1 ↔ 32 ≤ t.val ∧ t.val % 32 < 15 := by decide +kernel
/-- and over the others. -/
theorem cond6_iff : ∀ t : Fin grid0.N, k0_cond6 (grid0.coords t) = 1#1 ↔ 32 ≤ t.val ∧ 15 ≤ t.val % 32 := by decide +kernel

/-- A point's image and its number in it. -/
theorem coords_eq : ∀ t : Fin grid0.N, (grid0.coords t 1).val = t.val % 32 / 8 ∧ (grid0.coords t 2).val = t.val % 8 := by decide +kernel

/-- The result's window is idle through the first pass, and written back by no point of it. -/
theorem idle5 : ∀ t : Fin cfg0.N, cfg0.idle 5 (cfg0.grid.coords t) = decide (t.val < 32) := by decide +kernel
theorem flush5 : ∀ t : Fin cfg0.N, (cfg0.win 5).flush t = decide (32 ≤ t.val) := by decide +kernel

/-- Where the blocks of `x` lie: the point's own block, and in the second pass, at a point the cache serves, the last one; -/
theorem index0 : ∀ t : Fin grid0.N, win0_0.index t = ![if 32 ≤ t.val ∧ t.val % 32 < 15 then 3 else t.val % 32 / 8,
    if 32 ≤ t.val ∧ t.val % 32 < 15 then 7 else t.val % 8, 0, 0] := by decide +kernel
/-- the row above the block, in the second pass; -/
theorem index1 : ∀ t : Fin grid0.N, 32 ≤ t.val → win0_1.index t = ![t.val % 32 / 8, 28 * (t.val % 8) - 1, 0, 0] := by decide +kernel
/-- the row below it; -/
theorem index2 : ∀ t : Fin grid0.N, 32 ≤ t.val → win0_2.index t = ![t.val % 32 / 8, min (28 * (t.val % 8 + 1)) 223, 0, 0] := by decide +kernel
theorem index3 : ∀ t : Fin grid0.N, win0_3.index t = ![0, 0] := by decide +kernel
theorem index4 : ∀ t : Fin grid0.N, win0_4.index t = ![0, 0, 0] := by decide +kernel
/-- and the result's block. -/
theorem index5 : ∀ t : Fin grid0.N, 32 ≤ t.val → win0_5.index t = ![t.val % 32 / 8, t.val % 8, 0, 0] := by decide +kernel

end Cert.KernelIdeal.Proof

end
-- ==== Proof.State.lean ====
/-
  What the scratch buffers hold before each point: the smallest and largest element of the blocks seen, and the first fifteen
  of those blocks.
-/
module

public import proofs.«01_k».proof.Proof.Blocks
public import proofs.«01_k».proof.Proof.Conds
public import Idealize.ShloMosaic.Lib.Pipeline.ValueKit

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open Idealize.SL.Sem

variable {F : FTy → Type} [FloatOps F]

variable (m : (ℓ : Loc nD τ sig) → Buf (Elt F) ℓ) (c : Dev nD)

omit [FloatOps F] in
theorem mod_lt_N (n : ℕ) : n % 64 < cfg0.N := lt_of_lt_of_eq (Nat.mod_lt n (by decide)) N_0.symm

/-- The block of `x` that point `n` of the first pass is given. -/
def xblk (n : ℕ) : Vec F S1x28x224x96 .f32 := iblk m c 0 ⟨n % 64, mod_lt_N n⟩

theorem xblk_eq (t : Fin cfg0.N) : xblk m c t.val = iblk m c 0 t := by
  unfold xblk
  have h : ∀ s : Fin cfg0.N, s = t → (iblk m c 0 s : Vec F S1x28x224x96 .f32) = iblk m c 0 t := by rintro _ rfl; rfl
  exact h _ (Fin.ext (Nat.mod_eq_of_lt (lt_of_lt_of_eq t.isLt N_0)))

/-- The smallest element of the blocks `0 … n`, as the kernel finds it; -/
def lo : ℕ → F .f32
  | 0 => k0_pay2 (xblk m c 0)
  | n + 1 => k0_pay4 (xblk m c (n + 1)) (lo n)
/-- and the largest. -/
def hi : ℕ → F .f32
  | 0 => k0_pay3 (xblk m c 0)
  | n + 1 => k0_pay5 (xblk m c (n + 1)) (hi n)

/-- Before point `n`, `n ≥ 1`: the two words hold the smallest and largest element so far, the cache the first fifteen blocks
    so far. -/
structure Tracked (n : ℕ) (M9 : Memref sig .tc .vmem S420x224x96 .f32) (M11 : Memref sig .tc .smem S2 .f32)
    (f9 : Bf (F := F) c M9) (f11 : Bf (F := F) c M11) : Prop where
  small : word0 c M11 f11 = lo m c (min n 32 - 1)
  large : word1 c M11 f11 = hi m c (min n 32 - 1)
  rows : ∀ (k : ℕ) (a : Fin 28) (y : S420x224x96.Idx), k < min n 15 → (y 0).val = 28 * k + a.val →
    M9.view.read (Elt F) f9 y = xblk m c k (ix4 0 a (y 1) (y 2))

variable (M9 : Memref sig .tc .vmem S420x224x96 .f32) (M11 : Memref sig .tc .smem S2 .f32) (f9 : Bf (F := F) c M9) (f11 : Bf (F := F) c M11)
  (t : Fin cfg0.N)

omit [FloatOps F] in
theorem place (h : t.val < 32) : 224 * (grid0.coords t 1).val + 28 * (grid0.coords t 2).val = 28 * t.val := by
  obtain ⟨h1, h2⟩ := coords_eq t
  rw [h1, h2]; omega

/-- The first point; -/
theorem tracked_init (ht : t.val = 0) (h1 : k0_cond1 (grid0.coords t) = 1#1) (h4 : k0_cond4 (grid0.coords t) = 1#1) :
    Tracked m c (t.val + 1) M9 M11 (M9.view.writes (Elt F) f9 [⟨Rect.unit (s := S420x224x96) (k0_off1 (grid0.coords t)) S28x224x96.size (k0_off1_inb (grid0.coords t) h1 h4), k0_pay6 (iblk m c 0 t)⟩])
      (M11.view.writes (Elt F) M11.view.junk [⟨Rect.unit (s := S2) ![1] S1.size inb_S2_S1_1, fun _ => k0_pay3 (iblk m c 0 t)⟩,
        ⟨Rect.unit (s := S2) ![0] S1.size inb_S2_S1_0, fun _ => k0_pay2 (iblk m c 0 t)⟩]) := by
  have hp := place t (by omega)
  refine ⟨?_, ?_, fun k a y hk hy => ?_⟩
  · rw [word0_stored, ← xblk_eq, ht]; rfl
  · rw [word1_stored, ← xblk_eq, ht]; rfl
  · obtain rfl : k = 0 := by omega
    rw [cache_stored c (grid0.coords t) M9 f9 h1 h4 (iblk m c 0 t) a y (by rw [hp]; omega), ← xblk_eq, ht]

/-- a later one the cache has room for; -/
theorem tracked_fill (h0 : t.val ≠ 0) (ht : t.val < 15) (h1 : k0_cond1 (grid0.coords t) = 1#1) (h4 : k0_cond4 (grid0.coords t) = 1#1)
    (h : Tracked m c t.val M9 M11 f9 f11) :
    Tracked m c (t.val + 1) M9 M11 (M9.view.writes (Elt F) f9 [⟨Rect.unit (s := S420x224x96) (k0_off1 (grid0.coords t)) S28x224x96.size (k0_off1_inb (grid0.coords t) h1 h4), k0_pay6 (iblk m c 0 t)⟩])
      (M11.view.writes (Elt F) M11.view.junk [⟨Rect.unit (s := S2) ![1] S1.size inb_S2_S1_1, fun _ => k0_pay5 (iblk m c 0 t) (word1 c M11 f11)⟩,
        ⟨Rect.unit (s := S2) ![0] S1.size inb_S2_S1_0, fun _ => k0_pay4 (iblk m c 0 t) (word0 c M11 f11)⟩]) := by
  have hp := place t (by omega)
  have e1 : min (t.val + 1) 32 - 1 = (t.val - 1) + 1 := by omega
  have e2 : min t.val 32 - 1 = t.val - 1 := by omega
  have e3 : t.val - 1 + 1 = t.val := by omega
  refine ⟨?_, ?_, fun k a y hk hy => ?_⟩
  · rw [word0_stored, h.small, e1, e2, lo, e3, xblk_eq]
  · rw [word1_stored, h.large, e1, e2, hi, e3, xblk_eq]
  · rcases Nat.lt_or_ge k t.val with hlt | hge
    · rw [cache_kept c (grid0.coords t) M9 f9 h1 h4 _ y (by rw [hp]; have := a.isLt; omega)]
      exact h.rows k a y (by omega) hy
    · obtain rfl : k = t.val := by omega
      rw [cache_stored c (grid0.coords t) M9 f9 h1 h4 (iblk m c 0 t) a y (by rw [hp]; omega), ← xblk_eq]

/-- one it has no room for; -/
theorem tracked_scan (h0 : 15 ≤ t.val) (ht : t.val < 32) (h : Tracked m c t.val M9 M11 f9 f11) :
    Tracked m c (t.val + 1) M9 M11 f9 (M11.view.writes (Elt F) M11.view.junk [⟨Rect.unit (s := S2) ![1] S1.size inb_S2_S1_1, fun _ => k0_pay5 (iblk m c 0 t) (word1 c M11 f11)⟩,
        ⟨Rect.unit (s := S2) ![0] S1.size inb_S2_S1_0, fun _ => k0_pay4 (iblk m c 0 t) (word0 c M11 f11)⟩]) := by
  have e1 : min (t.val + 1) 32 - 1 = (t.val - 1) + 1 := by omega
  have e2 : min t.val 32 - 1 = t.val - 1 := by omega
  have e3 : t.val - 1 + 1 = t.val := by omega
  refine ⟨?_, ?_, fun k a y hk hy => h.rows k a y (by omega) hy⟩
  · rw [word0_stored, h.small, e1, e2, lo, e3, xblk_eq]
  · rw [word1_stored, h.large, e1, e2, hi, e3, xblk_eq]

/-- and the points of the second pass. -/
theorem tracked_keep {n : ℕ} (h0 : 32 ≤ n) (h : Tracked m c n M9 M11 f9 f11) : Tracked m c (n + 1) M9 M11 f9 f11 := by
  have e : min (n + 1) 32 = min n 32 := by omega
  exact ⟨by rw [e]; exact h.small, by rw [e]; exact h.large, fun k a y hk hy => h.rows k a y (by omega) hy⟩

/-- A streamed point of the second pass is given the block the first pass was given. -/
theorem streamed_block (h : 32 ≤ t.val) (h' : 15 ≤ t.val % 32) : iblk m c 0 t = xblk m c (t.val - 32) := by
  have hN : t.val < 64 := lt_of_lt_of_eq t.isLt N_0
  have e : (t.val - 32) % 64 = t.val - 32 := Nat.mod_eq_of_lt (by omega)
  have i1 := index0 t
  have i2 := index0 ⟨(t.val - 32) % 64, mod_lt_N _⟩
  have e1 : ((⟨(t.val - 32) % 64, mod_lt_N _⟩ : Fin grid0.N) : ℕ) = t.val - 32 := e
  rw [e1, if_neg (by omega), if_neg (by omega)] at i2
  rw [if_neg (by omega), if_neg (by omega)] at i1
  have e2 : (t.val - 32) % 32 = t.val % 32 := by omega
  have e3 : (t.val - 32) % 8 = t.val % 8 := by omega
  rw [e2, e3] at i2
  unfold xblk
  funext y
  blk_ext [iblk, i1, i2]

end Cert.KernelIdeal.Proof

end
-- ==== Proof.Data.lean ====
/-
  The pipeline's proof data: what each window's buffer holds after the body at each point, and what is kept between the points.
-/
module

public import proofs.«01_k».proof.Proof.State
public import proofs.«01_k».proof.Proof.Gen.KernelIdeal.Points
public import proofs.«01_k».proof.Proof.Gen.KernelIdeal.Launch
public import Idealize.ShloMosaic.Lib.Pipeline.FrameBody

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (c : Dev nD)

/-- The cache, the ring and the two words. -/
abbrev cache : Memref sig .tc .vmem S420x224x96 .f32 := Memref.whole cc0_scratch0
abbrev ring : Memref sig .tc .vmem S4x226x96 .f32 := Memref.whole cc0_scratch1
abbrev words : Memref sig .tc .smem S2 .f32 := Memref.whole cc0_scratch2

/-- Before point `n`: the scratch buffers, tracked from the second point on, and the generator register. -/
def inv (n : ℕ) : sProp 𝕄 :=
  iprop(∃ (f9 : Bf (F := F) c cache) (f10 : Bf (F := F) c ring) (f11 : Bf (F := F) c words),
    pt c cache f9 ∗ pt c ring f10 ∗ pt c words f11 ∗ ⌜n ≠ 0 → Tracked m c n cache words f9 f11⌝ ∗ ∃ r, prngReg c r)

/-- The block of the result that point `t` of the second pass leaves. -/
def outAt (t : Fin cfg0.N) : Vec F S1x28x224x96 .f32 :=
  blockOut (lo m c 31) (hi m c 31) (iblk m c 3 t) (iblk m c 4 t) (BitVec.ofNat 32 (grid0.coords t 2)) (iblk m c 1 t) (iblk m c 2 t) (xblk m c (t.val - 32))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val
  q w := Pipeline.shareOf spec0 w
  owed _ := 0

theorem A_eq (c : Dev nD) (w : Fin cfg0.W) : (dats m 0 c).A w = V m c (Pipeline.arrRef spec0 w) := rfl

theorem before0 (t : Fin cfg0.N) (d) : (dats m 0 c).before 0 t d = iblk m c 0 t := before0_0_of m _ (A_eq m c 0) (fun _ => rfl) t d
theorem before1 (t : Fin cfg0.N) (d) : (dats m 0 c).before 1 t d = iblk m c 1 t := before0_1_of m _ (A_eq m c 1) (fun _ => rfl) t d
theorem before2 (t : Fin cfg0.N) (d) : (dats m 0 c).before 2 t d = iblk m c 2 t := before0_2_of m _ (A_eq m c 2) (fun _ => rfl) t d
theorem before3 (t : Fin cfg0.N) (d) : (dats m 0 c).before 3 t d = iblk m c 3 t := before0_3_of m _ (A_eq m c 3) (fun _ => rfl) t d
theorem before4 (t : Fin cfg0.N) (d) : (dats m 0 c).before 4 t d = iblk m c 4 t := before0_4_of m _ (A_eq m c 4) (fun _ => rfl) t d

/-- A whole buffer owned is the buffer held at contents that read as the block. -/
theorem owns_pt {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The buffers of the five inputs, at their blocks. -/
def inputs (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t))

end Cert.KernelIdeal.Proof

end
-- ==== Proof.Body.lean ====
/-
  The body's runs at the grid's points: the first pass keeps the invariant and leaves its input in place; the second also leaves
  the point's block of the result.
-/
module

public import proofs.«01_k».proof.Proof.Data

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (c : Dev nD)

/-- The body's run at a point of the first pass that leaves the cache and the words at `W`. -/
theorem first_of (t : Fin cfg0.N) (R : sProp 𝕄)
    (h : ∀ (f3 : Bf (F := F) c (st0_0 t)) (f9 : Bf (F := F) c cache) (f11 : Bf (F := F) c words), (st0_0 t).view.read (Elt F) f3 = iblk m c 0 t →
      (t.val ≠ 0 → Tracked m c t.val cache words f9 f11) →
      ∃ S : { W : Bf (F := F) c cache × Bf (F := F) c words // ∀ (E : Set ℕ) (Q : PUnit → sProp 𝕄),
        iprop(pt c (st0_0 t) f3 ∗ pt c cache f9 ∗ pt c words f11 ∗ (iprop(pt c (st0_0 t) f3 ∗ pt c cache W.1 ∗ pt c words W.2) -∗ Q ⟨⟩))
        ⊢ wp frame (wpE (defs₀ (F := F)) Variants.none c none) E (bodyAt0 t) Q }, Tracked m c (t.val + 1) cache words S.1.1 S.1.2) :
    iprop(inv m c t.val ∗ owns (c : Thread nD τ) (st0_0 t) fullShare (iblk m c 0 t) ∗ R)
    ⊢ wp frame (wpE (defs₀ (F := F)) Variants.none c none) Set.univ (bodyAt0 t)
        (fun _ => iprop(inv m c (t.val + 1) ∗ owns (c : Thread nD τ) (st0_0 t) fullShare (iblk m c 0 t) ∗ R)) := by
  rw [owns_pt c (st0_0 t) (hstage0_0 ((cfg0.slots t 0).cast nbuf0_0))]
  unfold inv
  iintro ⟨⟨%f9, %f10, %f11, H9, H10, H11, %hT, Hg⟩, ⟨%f3, %hf3, H3⟩, HR⟩
  obtain ⟨⟨W, hrun⟩, hW⟩ := h f3 f9 f11 hf3 hT
  iapply (hrun Set.univ _)
  isplitl [H3]; · iexact H3
  isplitl [H9]; · iexact H9
  isplitl [H11]; · iexact H11
  iintro ⟨H3, H9, H11⟩
  isplitl [H9 H10 H11 Hg]
  · iexists W.1, f10, W.2
    isplitl [H9]; · iexact H9
    isplitl [H10]; · iexact H10
    isplitl [H11]; · iexact H11
    isplitr; · ipureintro; exact fun _ => hW
    iexact Hg
  isplitl [H3]
  · iexists f3; isplitr; · ipureintro; exact hf3
    iexact H3
  iexact HR

/-- A point of the first pass. -/
theorem first_pass (t : Fin cfg0.N) (ht : t.val < 32) (R : sProp 𝕄) :
    iprop(inv m c t.val ∗ owns (c : Thread nD τ) (st0_0 t) fullShare (iblk m c 0 t) ∗ R)
    ⊢ wp frame (wpE (defs₀ (F := F)) Variants.none c none) Set.univ (bodyAt0 t)
        (fun _ => iprop(inv m c (t.val + 1) ∗ owns (c : Thread nD τ) (st0_0 t) fullShare (iblk m c 0 t) ∗ R)) := by
  have hc1 := (cond1_iff t).mpr ht
  have hc5 : ¬ k0_cond5 (grid0.coords t) = 1#1 := fun e => by have := (cond5_iff t).mp e; omega
  have hc6 : ¬ k0_cond6 (grid0.coords t) = 1#1 := fun e => by have := (cond6_iff t).mp e; omega
  refine first_of m c t R fun f3 f9 f11 hf3 hT => ?_
  rcases Nat.eq_zero_or_pos t.val with h0 | h0
  · have h2 := (first_iff t).mpr (by omega)
    have hl : ¬ laterPoint (grid0.coords t) = 1#1 := fun e => by have := (later_iff t).mp e; omega
    have hc4 := (cond4_iff t).mpr (by omega)
    refine ⟨initRun c (grid0.coords t) (st0_0 t) _ (st0_1 t) _ (st0_2 t) _ (st0_3 t) _ (st0_4 t) _ (st0_5 t) _ cache _ ring _ words _ hc1 h2 hl hc4 hc5 hc6 f3 f9 f11, ?_⟩
    rw [init_eq, hf3]
    dsimp only
    exact tracked_init m c cache words f9 t h0 hc1 hc4
  · have h2 : ¬ firstPoint (grid0.coords t) = 1#1 := fun e => by have := (first_iff t).mp e; omega
    have hl := (later_iff t).mpr (by omega)
    by_cases h15 : t.val < 15
    · have hc4 := (cond4_iff t).mpr (by omega)
      refine ⟨fillRun c (grid0.coords t) (st0_0 t) _ (st0_1 t) _ (st0_2 t) _ (st0_3 t) _ (st0_4 t) _ (st0_5 t) _ cache _ ring _ words _ hc1 h2 hl hc4 hc5 hc6 f3 f9 f11, ?_⟩
      rw [fill_eq, hf3]
      have hT' := hT (by omega)
      have h0' : t.val ≠ 0 := by omega
      dsimp only
      exact tracked_fill m c cache words f9 f11 t h0' h15 hc1 hc4 hT'
    · have hc4 : ¬ k0_cond4 (grid0.coords t) = 1#1 := fun e => by have := (cond4_iff t).mp e; omega
      refine ⟨scanRun c (grid0.coords t) (st0_0 t) _ (st0_1 t) _ (st0_2 t) _ (st0_3 t) _ (st0_4 t) _ (st0_5 t) _ cache _ ring _ words _ hc1 h2 hl hc4 hc5 hc6 f3 f9 f11, ?_⟩
      rw [scan_eq, hf3]
      have hT' := hT (by omega)
      have h15' : 15 ≤ t.val := by omega
      dsimp only
      exact tracked_scan m c cache words f9 f11 t h15' ht hT'

/-- The body's run at a point of the second pass that leaves the result's buffer at `W`. -/
theorem second_of (t : Fin cfg0.N) (ht : 32 ≤ t.val)
    (h : ∀ (f3 : Bf (F := F) c (st0_0 t)) (f4 : Bf (F := F) c (st0_1 t)) (f5 : Bf (F := F) c (st0_2 t)) (f6 : Bf (F := F) c (st0_3 t))
      (f7 : Bf (F := F) c (st0_4 t)) (f9 : Bf (F := F) c cache) (f11 : Bf (F := F) c words),
      (st0_0 t).view.read (Elt F) f3 = iblk m c 0 t → (st0_1 t).view.read (Elt F) f4 = iblk m c 1 t →
      (st0_2 t).view.read (Elt F) f5 = iblk m c 2 t → (st0_3 t).view.read (Elt F) f6 = iblk m c 3 t →
      (st0_4 t).view.read (Elt F) f7 = iblk m c 4 t → Tracked m c t.val cache words f9 f11 →
      ∃ W : Bf (F := F) c (st0_5 t), (st0_5 t).view.read (Elt F) W = outAt m c t ∧ ∀ (f8 : Bf (F := F) c (st0_5 t)) (f10 : Bf (F := F) c ring) (Q : PUnit → sProp 𝕄),
        iprop(pt c (st0_0 t) f3 ∗ pt c (st0_1 t) f4 ∗ pt c (st0_2 t) f5 ∗ pt c (st0_3 t) f6 ∗ pt c (st0_4 t) f7 ∗ pt c (st0_5 t) f8
          ∗ pt c cache f9 ∗ pt c ring f10 ∗ pt c words f11
          ∗ (iprop(pt c (st0_0 t) f3 ∗ pt c (st0_1 t) f4 ∗ pt c (st0_2 t) f5 ∗ pt c (st0_3 t) f6 ∗ pt c (st0_4 t) f7 ∗ pt c (st0_5 t) W
            ∗ pt c cache f9 ∗ (∃ f, pt c ring f) ∗ pt c words f11) -∗ Q ⟨⟩))
        ⊢ wp frame (wpE (defs₀ (F := F)) Variants.none c none) Set.univ (bodyAt0 t) Q) :
    iprop(inv m c t.val ∗ inputs m c t ∗ ∃ X, owns (c : Thread nD τ) (st0_5 t) fullShare X)
    ⊢ wp frame (wpE (defs₀ (F := F)) Variants.none c none) Set.univ (bodyAt0 t)
        (fun _ => iprop(inv m c (t.val + 1) ∗ inputs m c t ∗ owns (c : Thread nD τ) (st0_5 t) fullShare (outAt m c t))) := by
  unfold inputs
  simp only [owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_4 t) (hstage0_4 ((cfg0.slots t 4).cast nbuf0_4)), owns_pt c (st0_5 t) (hstage0_5 ((cfg0.slots t 5).cast nbuf0_5))]
  unfold inv
  iintro ⟨⟨%f9, %f10, %f11, H9, H10, H11, %hT, Hg⟩, ⟨⟨%f3, %hf3, H3⟩, ⟨%f4, %hf4, H4⟩, ⟨%f5, %hf5, H5⟩, ⟨%f6, %hf6, H6⟩, ⟨%f7, %hf7, H7⟩⟩,
    ⟨%X, %f8, -, H8⟩⟩
  have hT' := hT (by omega)
  obtain ⟨W, hW, hrun⟩ := h f3 f4 f5 f6 f7 f9 f11 hf3 hf4 hf5 hf6 hf7 hT'
  iapply (hrun f8 f10 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, ⟨%g10, H10⟩, H11⟩
  isplitl [H9 H10 H11 Hg]
  · iexists f9, g10, f11
    isplitl [H9]; · iexact H9
    isplitl [H10]; · iexact H10
    isplitl [H11]; · iexact H11
    isplitr; · ipureintro; exact fun _ => tracked_keep m c cache words f9 f11 ht hT'
    iexact Hg
  isplitl [H3 H4 H5 H6 H7]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    iexists f7; isplitr; · ipureintro; exact hf7
    iexact H7
  iexists W; isplitr; · ipureintro; exact hW
  iexact H8

/-- A point of the second pass. -/
theorem second_pass (t : Fin cfg0.N) (ht : 32 ≤ t.val) :
    iprop(inv m c t.val ∗ inputs m c t ∗ ∃ X, owns (c : Thread nD τ) (st0_5 t) fullShare X)
    ⊢ wp frame (wpE (defs₀ (F := F)) Variants.none c none) Set.univ (bodyAt0 t)
        (fun _ => iprop(inv m c (t.val + 1) ∗ inputs m c t ∗ owns (c : Thread nD τ) (st0_5 t) fullShare (outAt m c t))) := by
  have hN : t.val < 64 := lt_of_lt_of_eq t.isLt N_0
  have hc1 : ¬ k0_cond1 (grid0.coords t) = 1#1 := fun e => by have := (cond1_iff t).mp e; omega
  have e31 : min t.val 32 - 1 = 31 := by omega
  refine second_of m c t ht fun f3 f4 f5 f6 f7 f9 f11 hf3 hf4 hf5 hf6 hf7 hT => ?_
  have hs := hT.small
  have hb := hT.large
  rw [e31] at hs hb
  by_cases h15 : t.val % 32 < 15
  · have hc5 := (cond5_iff t).mpr ⟨ht, h15⟩
    have hc6 : ¬ k0_cond6 (grid0.coords t) = 1#1 := fun e => by have := (cond6_iff t).mp e; omega
    refine ⟨_, ?_, fun f8 f10 Q => (cachedRun c (grid0.coords t) (st0_0 t) _ (st0_1 t) _ (st0_2 t) _ (st0_3 t) _ (st0_4 t) _ (st0_5 t) _ cache _ ring _ words _
      hc1 hc5 hc6 f3 f4 f5 f6 f7 f9 f11).2 f8 f10 _ Q⟩
    refine (cached_read c (grid0.coords t) (st0_0 t) _ (st0_1 t) _ (st0_2 t) _ (st0_3 t) _ (st0_4 t) _ (st0_5 t) _ cache _ ring _ words _
      f3 f4 f5 f6 f7 f9 f11 hc1 hc5 hc6 (xblk m c (t.val - 32)) fun a y hy => ?_).trans ?_
    · obtain ⟨h1, h2⟩ := coords_eq t
      refine hT.rows (t.val - 32) a y (by omega) ?_
      rw [hy, h1, h2]; omega
    · rw [hs, hb, hf4, hf5, hf6, hf7]; rfl
  · have hc6 := (cond6_iff t).mpr ⟨ht, by omega⟩
    have hc5 : ¬ k0_cond5 (grid0.coords t) = 1#1 := fun e => by have := (cond5_iff t).mp e; omega
    refine ⟨_, ?_, fun f8 f10 Q => (streamedRun c (grid0.coords t) (st0_0 t) _ (st0_1 t) _ (st0_2 t) _ (st0_3 t) _ (st0_4 t) _ (st0_5 t) _ cache _ ring _ words _
      hc1 hc5 hc6 f3 f4 f5 f6 f7 f9 f11).2 f8 f10 _ Q⟩
    refine (streamed_read c (grid0.coords t) (st0_0 t) _ (st0_1 t) _ (st0_2 t) _ (st0_3 t) _ (st0_4 t) _ (st0_5 t) _ cache _ ring _ words _
      f3 f4 f5 f6 f7 f9 f11 hc1 hc5 hc6).trans ?_
    rw [hs, hb, hf3, hf4, hf5, hf6, hf7, streamed_block m c t ht (by omega)]; rfl

end Cert.KernelIdeal.Proof

end
-- ==== Proof.Run.lean ====
/-
  The run of the whole program: the body's obligation at every point, the launch, and the frame.
-/
module

public import proofs.«01_k».proof.Proof.Body

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the body is given at point `t`, -/
def bodyPre (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back, the result's buffer as `B` says. -/
def bodyPost (t : Fin cfg0.N) (B : sProp 𝕄) : sProp 𝕄 :=
  iprop(inv m c (t.val + 1) ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ B)

/-- The body at a point of the first pass; -/
theorem sound_first (t : Fin cfg0.N) (ht : t.val < 32) :
    bodyPre m c t ⊢ wp frame (wpE (defs₀ (F := F)) Variants.none c none) Set.univ (bodyAt0 t)
      (fun _ => bodyPost m c t iprop(∃ d, owns (c : Thread nD τ) (st0_5 t) fullShare ((dats m 0 c).before 5 t d))) := by
  refine triple_restated (first_pass m c t ht iprop((dats m 0 c).owesAt () t.castSucc
      ∗ owns (c : Thread nD τ) (st0_1 t) fullShare (iblk m c 1 t) ∗ owns (c : Thread nD τ) (st0_2 t) fullShare (iblk m c 2 t)
      ∗ owns (c : Thread nD τ) (st0_3 t) fullShare (iblk m c 3 t) ∗ owns (c : Thread nD τ) (st0_4 t) fullShare (iblk m c 4 t)
      ∗ ∃ d, owns (c : Thread nD τ) (st0_5 t) fullShare ((dats m 0 c).before 5 t d))) rfl ?_ fun _ => ?_
  · unfold bodyPre
    simp only [before0, before1, before2, before3, before4]
    iintro ⟨HI, HO, ⟨%d0, H0⟩, ⟨%d1, H1⟩, ⟨%d2, H2⟩, ⟨%d3, H3⟩, ⟨%d4, H4⟩, H5⟩
    isplitl [HI]; · iexact HI
    isplitl [H0]; · iexact H0
    isplitl [HO]; · iexact HO
    isplitl [H1]; · iexact H1
    isplitl [H2]; · iexact H2
    isplitl [H3]; · iexact H3
    isplitl [H4]; · iexact H4
    iexact H5
  · unfold bodyPost
    rw [show (dats m 0 c).owesAt () t.succ = (dats m 0 c).owesAt () t.castSucc from rfl]
    iintro ⟨HI, H0, HO, H1, H2, H3, H4, H5⟩
    isplitl [HI]; · iexact HI
    isplitl [HO]; · iexact HO
    isplitl [H0]; · iexact H0
    isplitl [H1]; · iexact H1
    isplitl [H2]; · iexact H2
    isplitl [H3]; · iexact H3
    isplitl [H4]; · iexact H4
    iexact H5

/-- and at a point of the second. -/
theorem sound_second (t : Fin cfg0.N) (ht : 32 ≤ t.val) :
    bodyPre m c t ⊢ wp frame (wpE (defs₀ (F := F)) Variants.none c none) Set.univ (bodyAt0 t)
      (fun _ => bodyPost m c t (owns (c : Thread nD τ) (st0_5 t) fullShare (outAt m c t))) := by
  have step : iprop((inv m c t.val ∗ inputs m c t ∗ ∃ X, owns (c : Thread nD τ) (st0_5 t) fullShare X) ∗ (dats m 0 c).owesAt () t.castSucc)
      ⊢ wp frame (wpE (defs₀ (F := F)) Variants.none c none) Set.univ (bodyAt0 t)
        (fun _ => iprop((inv m c (t.val + 1) ∗ inputs m c t ∗ owns (c : Thread nD τ) (st0_5 t) fullShare (outAt m c t)) ∗ (dats m 0 c).owesAt () t.castSucc)) :=
    (sep_mono (second_pass m c t ht) .rfl).trans (wp_frame_r _ _ _)
  refine triple_restated step rfl ?_ fun _ => ?_
  · unfold bodyPre inputs
    simp only [before0, before1, before2, before3, before4]
    iintro ⟨HI, HO, ⟨%d0, H0⟩, ⟨%d1, H1⟩, ⟨%d2, H2⟩, ⟨%d3, H3⟩, ⟨%d4, H4⟩, ⟨%d5, H5⟩⟩
    isplitr [HO]
    · isplitl [HI]; · iexact HI
      isplitl [H0 H1 H2 H3 H4]
      · isplitl [H0]; · iexact H0
        isplitl [H1]; · iexact H1
        isplitl [H2]; · iexact H2
        isplitl [H3]; · iexact H3
        iexact H4
      iexists _; iexact H5
    iexact HO
  · unfold bodyPost inputs
    rw [show (dats m 0 c).owesAt () t.succ = (dats m 0 c).owesAt () t.castSucc from rfl]
    iintro ⟨⟨HI, ⟨H0, H1, H2, H3, H4⟩, H5⟩, HO⟩
    isplitl [HI]; · iexact HI
    isplitl [HO]; · iexact HO
    isplitl [H0]; · iexact H0
    isplitl [H1]; · iexact H1
    isplitl [H2]; · iexact H2
    isplitl [H3]; · iexact H3
    isplitl [H4]; · iexact H4
    iexact H5

/-- The body the pipeline calls at a point. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation : BodyObligation (dats m 0 c) (defs₀ (F := F)) Variants.none () Set.univ := fun t => by
  rw [bigSep_W0, bigSep_W0, defs₀_row]
  by_cases ht : t.val < 32
  · refine triple_restated (sound_first m c t ht) rfl .rfl fun _ => ?_
    have hi : cfg0.idle 5 (cfg0.grid.coords t) = true := (idle5 t).trans (decide_eq_true ht)
    have hf : (cfg0.win 5).flush t = false := (flush5 t).trans (decide_eq_false (by omega))
    rw [hi, hf]
    exact .rfl
  · refine triple_restated (sound_second m c t (by omega)) rfl .rfl fun _ => ?_
    have hi : cfg0.idle 5 (cfg0.grid.coords t) = false := (idle5 t).trans (decide_eq_false ht)
    rw [hi]
    exact .rfl

/-- The scratch buffers at anything are what the first point finds, -/
theorem inv_start : (Pipeline.ΦA spec0 c : sProp 𝕄) ⊢ inv m c 0 := by
  unfold Pipeline.ΦA inv
  rw [scopedRest0_eq c]
  iintro ⟨⟨⟨%f9, H9⟩, ⟨%f10, H10⟩, ⟨%f11, H11⟩⟩, Hg⟩
  iexists f9, f10, f11
  isplitl [H9]; · iexact H9
  isplitl [H10]; · iexact H10
  isplitl [H11]; · iexact H11
  isplitr; · ipureintro; exact fun h => absurd rfl h
  iexact Hg

/-- and what any point leaves. -/
theorem inv_end (n : ℕ) : inv m c n ⊢ (Pipeline.ΦA spec0 c : sProp 𝕄) := by
  unfold Pipeline.ΦA inv
  rw [scopedRest0_eq c]
  iintro ⟨%f9, %f10, %f11, H9, H10, H11, -, Hg⟩
  isplitr [Hg]
  · isplitl [H9]; · iexists f9; iexact H9
    isplitl [H10]; · iexists f10; iexact H10
    iexists f11; iexact H11
  iexact Hg

set_option backward.isDefEq.respectTransparency.types false in
/-- From any memory with zero counters every fair execution ends, with every array at the contents the windows' blocks give it,
    every other buffer as it was and every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := fun c => inv_start m c) (hout := fun c => inv_end m c _) (hQ' := fun _ h => h)

/-- The run as the claims read it: the arguments unchanged, the result at its blocks' contents, every counter at zero. -/
theorem run : θ_run defs (onTc (τ := τ) (main (F := F))) ⟨m, fun _ => 0, ρ⟩ (fun r => (∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 5,
      ((h.1 c).1 2).trans ((dats m 0 c).arrAt_in 2 rfl _),
      ((h.1 c).1 3).trans ((dats m 0 c).arrAt_in 3 rfl _),
      ((h.1 c).1 4).trans ((dats m 0 c).arrAt_in 4 rfl _)⟩, h.2⟩) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run m ρ)

end Cert.KernelIdeal.Proof

end
-- ==== Proof.Same.lean ====
module
public import proofs.«01_k».proof.Proof.Run
public import proofs.«01_k».proof.Proof.Gen.Kernel
public import proofs.«01_k».proof.Proof.Gen.KernelIdeal

/-! # The program as printed is the ideal one's text

The ideal pass rewrote no operation, so the two programs differ in name only, and the frame of one
is the frame of the other. -/

@[expose] public section
set_option maxRecDepth 16384
noncomputable section
namespace Cert.KernelIdeal.Proof
open Idealize.ShloMosaic Idealize.SL.Sem
variable {F : FTy → Type} [FloatOps F]

set_option maxHeartbeats 1000000 in
-- the two bodies are compared statement by statement
/-- The two bodies are one function. -/
theorem body_same : @Cert.Kernel.cc0__fused_kernel F _ Cert.Kernel.Gen.facts =
    @Cert.KernelIdeal.cc0__fused_kernel F _ Cert.KernelIdeal.Gen.facts := rfl

/-- The two body tables are one. -/
theorem table_same : @Cert.Kernel.defs₀ F _ Cert.Kernel.Gen.facts =
    @Cert.KernelIdeal.defs₀ F _ Cert.KernelIdeal.Gen.facts := by
  unfold Cert.Kernel.defs₀ Cert.KernelIdeal.defs₀
  rw [body_same]
  refine congrArg _ ?_
  funext l a
  match l, a with
  | 0, (t, s) => rfl

/-- The two programs' definitions are one. -/
theorem defs_same : @Cert.Kernel.defs F _ Cert.Kernel.Gen.facts =
    @Cert.KernelIdeal.defs F _ Cert.KernelIdeal.Gen.facts := by
  unfold Cert.Kernel.defs Cert.KernelIdeal.defs
  rw [table_same]
  rfl

/-- The two entry points are one. -/
theorem main_same : @Cert.Kernel.main F Cert.Kernel.Gen.facts =
    @Cert.KernelIdeal.main F Cert.KernelIdeal.Gen.facts := rfl

/-- The frame of the program as printed. -/
theorem frame_printed (m : (ℓ : Loc Cert.Kernel.nD Cert.Kernel.τ Cert.Kernel.sig) → Buf (Elt F) ℓ) (g : Dev Cert.Kernel.nD → PrngReg) :
    θ_run (@Cert.Kernel.defs F _ Cert.Kernel.Gen.facts) (onTc (τ := Cert.Kernel.τ) (@Cert.Kernel.main F Cert.Kernel.Gen.facts))
      ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
        ∧ r.2.sem = fun _ => 0) := by
  have h := Cert.KernelIdeal.Proof.frame (F := F) m g
  rw [← defs_same, ← main_same] at h
  exact h

end Cert.KernelIdeal.Proof
end
-- ==== Proof.Bins.lean ====
/-
  The quantiser on finite numbers: the bin the reference computes by a quotient, a floor and a clip is the one whose edges the
  kernel compares with.
-/
module

public import Idealize.ShloMosaic.PureOps.Ideal.Laws
public import Idealize.ShloMosaic.Lib.IdealHost

@[expose] public section

noncomputable section

namespace Cert.Bins

open Idealize.ShloMosaic

/-- The last of `T 0, …, T n` whose edge is not above `v`, `T 0` where none is. -/
def pick (T e : ℕ → EReal) (v : EReal) : ℕ → EReal
  | 0 => T 0
  | k + 1 => if e (k + 1) ≤ v then T (k + 1) else pick T e v k

/-- Where exactly the edges up to `n` are not above `v`, it is `T n`. -/
theorem pick_eq (T e : ℕ → EReal) (v : EReal) (n : ℕ) :
    ∀ N, n ≤ N → (∀ j, 1 ≤ j → j ≤ N → (e j ≤ v ↔ j ≤ n)) → pick T e v N = T n
  | 0, hn, _ => by obtain rfl : n = 0 := by omega
                   rfl
  | N + 1, hn, h => by
    unfold pick
    by_cases hc : e (N + 1) ≤ v
    · obtain rfl : n = N + 1 := le_antisymm hn ((h (N + 1) (by omega) le_rfl).1 hc)
      rw [if_pos hc]
    · have : n ≤ N := by
        by_contra hlt
        exact hc ((h (N + 1) (by omega) le_rfl).2 (by omega))
      rw [if_neg hc]
      exact pick_eq T e v n N this fun j h1 h2 => h j h1 (by omega)

/-! ## The constants -/

theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_seven : Ideal.ofBits .f32 0x40E00000#32 = ((7 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_one' : Ideal.ofBits .f32 0x3F800000#32 = ((1 : ℝ) : EReal) := by
  rw [Ideal.ofBits_one_f32]; norm_cast
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The printed 1e-8 is a positive real. -/
theorem ofBits_small : ∃ ε : ℝ, 0 < ε ∧ Ideal.ofBits .f32 0x322BCC77#32 = (ε : EReal) := by
  refine ⟨_, ?_, by simp only [Ideal.ofBits, Ideal.ieee]; rw [if_neg (by decide), if_neg (by decide)]⟩
  simp

/-! ## The bin -/

/-- The kernel's edges. -/
def edgeAt (a b ε : EReal) (j : ℕ) : EReal := a + ((j : ℝ) : EReal) * Ideal.div (b - a + ε) ((8 : ℝ) : EReal)

/-- The bin as the reference computes it. -/
def binAt (a b ε v : EReal) : BitVec 32 :=
  Ideal.fptosi 32 (min ((7 : ℝ) : EReal) (max ((0 : ℝ) : EReal)
    (Ideal.liftRound Int.floor (Ideal.div (v - a) (b - a + ε) * ((8 : ℝ) : EReal)))))

/-- On finite numbers the bin is a number below 8, and the edges up to it are exactly those not above the value. -/
theorem bin_spec (a b ε v : ℝ) (hab : a ≤ b) (hε : 0 < ε) :
    ∃ n : ℕ, n ≤ 7 ∧ binAt a b ε v = BitVec.ofNat 32 n ∧ ∀ j, 1 ≤ j → j ≤ 7 → (edgeAt a b ε j ≤ v ↔ j ≤ n) := by
  have hD : 0 < b - a + ε := by linarith
  set D := b - a + ε with hDe
  have eD : (b : EReal) - a + ε = (D : EReal) := by rw [hDe]; norm_cast
  set q : ℝ := (v - a) * (1 / D) * 8 with hq
  have eq : Ideal.div ((v : EReal) - a) ((b : EReal) - a + ε) * ((8 : ℝ) : EReal) = (q : EReal) := by
    rw [eD, Ideal.div_coe hD.ne', hq]; norm_cast
  set z : ℤ := min 7 (max 0 ⌊q⌋) with hz
  have hz0 : 0 ≤ z := by omega
  have hz7 : z ≤ 7 := by omega
  have ez : min ((7 : ℝ) : EReal) (max ((0 : ℝ) : EReal) (((⌊q⌋ : ℤ) : ℝ) : EReal)) = ((z : ℝ) : EReal) := by
    rw [hz]; push_cast; rfl
  refine ⟨z.toNat, by omega, ?_, fun j h1 h7 => ?_⟩
  · unfold binAt
    rw [eq, Ideal.liftRound_coe, ez, Ideal.fptosi, Ideal.toIntClamped_coe, if_pos (by exact_mod_cast hz0), Int.floor_intCast]
    rw [← BitVec.ofInt_natCast, Int.toNat_of_nonneg hz0]
    congr 1
    norm_num
    omega
  · have ee : edgeAt a b ε j = ((a + j * (D * (1 / 8)) : ℝ) : EReal) := by
      unfold edgeAt
      rw [eD, Ideal.div_coe (by norm_num)]
      norm_cast
    rw [ee, EReal.coe_le_coe_iff]
    have h : a + j * (D * (1 / 8)) ≤ v ↔ (j : ℝ) ≤ q := by
      rw [hq, show (v - a) * (1 / D) * 8 = (v - a) * 8 / D by ring, le_div_iff₀ hD]
      constructor <;> intro h <;> linarith
    rw [h]
    have h2 : (j : ℝ) ≤ q ↔ (j : ℤ) ≤ ⌊q⌋ := by rw [Int.le_floor]; norm_cast
    rw [h2]
    omega

end Cert.Bins

end
-- ==== Proof.Pixel.lean ====
/-
  The output block of a point read at an index, over the extended reals.
-/
module

public import proofs.«01_k».proof.Proof.Bins
public import proofs.«01_k».proof.Proof.Blocks
public import Idealize.ShloMosaic.Lib.Pointwise

@[expose] public section

set_option maxRecDepth 16384

noncomputable section

namespace Cert.KernelIdeal.Proof

open Cert.KernelIdeal Cert.KernelIdeal.Gen Cert.Bins
open Idealize.ShloMosaic

/-- The printed 1e-8. -/
abbrev eps : EReal := Ideal.ofBits .f32 0x322BCC77#32

/-- The table's entry for the value `v` in channel `c`; -/
def chosen (mn mx : EReal) (co : Vec Ideal S8x96 .f32) (c : Fin 96) (v : EReal) : EReal :=
  pick (fun k => co (ix2 (Fin.ofNat 8 k) c)) (edgeAt mn mx eps) v 7

/-- an entry of the padded, scaled array: the value at row `r - 1` and column `s - 1` times its table entry, zero on the border. -/
def pixel (mn mx : EReal) (co : Vec Ideal S8x96 .f32) (x : ℕ → ℕ → EReal) (c : Fin 96) (r s : ℕ) : EReal :=
  if (1 ≤ r ∧ r ≤ 224) ∧ 1 ≤ s ∧ s ≤ 224 then x (r - 1) (s - 1) * chosen mn mx co c (x (r - 1) (s - 1)) else 0

/-- The nine products around a place, added. -/
def conv9 (P : ℕ → ℕ → EReal) (w : Fin 3 → Fin 3 → EReal) (r s : ℕ) : EReal :=
  P r s * w 0 0 + P r (s + 1) * w 0 1 + P r (s + 2) * w 0 2
    + P (r + 1) s * w 1 0 + P (r + 1) (s + 1) * w 1 1 + P (r + 1) (s + 2) * w 1 2
    + P (r + 2) s * w 2 0 + P (r + 2) (s + 1) * w 2 1 + P (r + 2) (s + 2) * w 2 2

theorem step_apply (mn bw : EReal) (co : Vec Ideal S8x96 .f32) (v : FVec Ideal S224x96 .f32) (j : BitVec 32) (off : Fin 2 → Nat)
    (h : S8x96.Slices off S1x96) (prev : FVec Ideal S224x96 .f32) (i : S224x96.Idx) :
    step mn bw co v j off h prev i = if edge (F := Ideal) mn bw j ≤ v i then coRow co off h i else prev i := by
  show Scalar.select (Ideal.cmp .oge (v i) (edge (F := Ideal) mn bw j)) _ _ = _
  unfold Ideal.cmp Scalar.select
  by_cases hc : edge (F := Ideal) mn bw j ≤ v i <;> simp [hc]

theorem coRow_apply (co : Vec Ideal S8x96 .f32) (k : Fin 8) (off : Fin 2 → Nat) (h : S8x96.Slices off S1x96)
    (h0 : off 0 = k.val) (h1 : off 1 = 0) (s : Fin 224) (c : Fin 96) :
    coRow co off h (ix2 s c) = co (ix2 k c) := by
  unfold coRow
  pointwise
  congr 1
  funext a
  match a with
  | 0 => exact Fin.ext h0
  | 1 => exact Fin.ext (by show off 1 + c.val = c.val; omega)

theorem edge_apply (mn mx : EReal) (b : BitVec 32) (j : ℕ) (h : Ideal.ofBits .f32 b = ((j : ℝ) : EReal)) :
    edge (F := Ideal) mn (binw (F := Ideal) mn mx) b = edgeAt mn mx eps j := by
  unfold edgeAt
  rw [← h, ← ofBits_eight]
  rfl

theorem scaled_apply (mn mx : EReal) (co : Vec Ideal S8x96 .f32) (v : FVec Ideal S224x96 .f32) (s : Fin 224) (c : Fin 96) :
    scaled (F := Ideal) mn (binw (F := Ideal) mn mx) co v (ix2 s c) = v (ix2 s c) * chosen mn mx co c (v (ix2 s c)) := by
  unfold scaled
  show v (ix2 s c) * _ = _
  congr 1
  simp only [step_apply]
  rw [edge_apply mn mx _ 7 (by rw [ofBits_seven]; norm_num), edge_apply mn mx _ 6 (by rw [ofBits_six]; norm_num),
    edge_apply mn mx _ 5 (by rw [ofBits_five]; norm_num), edge_apply mn mx _ 4 (by rw [ofBits_four]; norm_num),
    edge_apply mn mx _ 3 (by rw [ofBits_three]; norm_num), edge_apply mn mx _ 2 (by rw [ofBits_two]; norm_num),
    edge_apply mn mx _ 1 (by rw [ofBits_one']; norm_num)]
  rw [coRow_apply co 7 _ _ rfl rfl, coRow_apply co 6 _ _ rfl rfl, coRow_apply co 5 _ _ rfl rfl, coRow_apply co 4 _ _ rfl rfl,
    coRow_apply co 3 _ _ rfl rfl, coRow_apply co 2 _ _ rfl rfl, coRow_apply co 1 _ _ rfl rfl, coRow_apply co 0 _ _ rfl rfl]
  rfl

theorem padded_apply (v : FVec Ideal S224x96 .f32) (s : Fin 226) (c : Fin 96) :
    padded (F := Ideal) v (ix3 0 s c) = if h : 1 ≤ s.val ∧ s.val ≤ 224 then v (ix2 ⟨s.val - 1, by omega⟩ c) else 0 := by
  unfold padded
  pointwise
  by_cases h1 : s.val < 1
  · rw [dif_pos h1, dif_neg (by omega)]
  · rw [dif_neg h1]
    by_cases h2 : s.val - 1 < 224
    · rw [dif_pos h2, dif_pos (by omega)]
    · rw [dif_neg h2, dif_neg (by omega)]

theorem masked_apply (b : Bool) (v : FVec Ideal S224x96 .f32) (i : S224x96.Idx) :
    masked (F := Ideal) (BitVec.ofBool b) v i = if b then v i else 0 := by
  show v i * Scalar.select (BitVec.ofBool b) (Ideal.ofBits .f32 0x3F800000#32) (Ideal.ofBits .f32 0x00000000#32) = _
  unfold Scalar.select
  cases b
  · simp
  · simp

theorem padded_pixel (mn mx : EReal) (co : Vec Ideal S8x96 .f32) (X : ℕ → ℕ → EReal) (c : Fin 96) (r : ℕ) (hr : 1 ≤ r ∧ r ≤ 224)
    (v : FVec Ideal S224x96 .f32) (hv : ∀ s : Fin 224, v (ix2 s c) = X (r - 1) s.val * chosen mn mx co c (X (r - 1) s.val)) (s : Fin 226) :
    padded (F := Ideal) v (ix3 0 s c) = pixel mn mx co X c r s.val := by
  rw [padded_apply]
  unfold pixel
  by_cases hs : 1 ≤ s.val ∧ s.val ≤ 224
  · rw [dif_pos hs, if_pos ⟨hr, hs⟩, hv]
  · rw [dif_neg hs, if_neg (fun h => hs h.2)]

theorem padded_border (mn mx : EReal) (co : Vec Ideal S8x96 .f32) (X : ℕ → ℕ → EReal) (c : Fin 96) (r : ℕ) (hr : ¬ (1 ≤ r ∧ r ≤ 224))
    (v : FVec Ideal S224x96 .f32) (hv : ∀ s : Fin 224, v (ix2 s c) = 0) (s : Fin 226) :
    padded (F := Ideal) v (ix3 0 s c) = pixel mn mx co X c r s.val := by
  rw [padded_apply]
  unfold pixel
  rw [if_neg (fun h => hr h.1)]
  split
  · exact hv _
  · rfl

section Rows

variable (mn bw : EReal) (co : Vec Ideal S8x96 .f32) (i : BitVec 32) (top bot : FVec Ideal S224x96 .f32) (mid : ℕ → FVec Ideal S224x96 .f32)

theorem ringRow_top : ringRow (F := Ideal) mn bw co i top bot mid 0 = padded (masked (Scalar.cmpi .sgt i 0#32) (scaled mn bw co top)) := rfl
theorem ringRow_bot : ringRow (F := Ideal) mn bw co i top bot mid (28 + 1) = padded (masked (Scalar.cmpi .slt i 7#32) (scaled mn bw co bot)) := rfl
theorem ringRow_mid {r : ℕ} (h : r ≠ 28) : ringRow (F := Ideal) mn bw co i top bot mid (r + 1) = padded (scaled mn bw co (mid r)) := by
  simp only [ringRow]

end Rows

/-- The padded row `k` of block `i` of an image holds the pixels of row `28 i + k`. -/
theorem ringRow_apply (mn mx : EReal) (co : Vec Ideal S8x96 .f32) (X : ℕ → ℕ → EReal) (c : Fin 96) (i : ℕ) (hi : i < 8)
    (top bot : FVec Ideal S224x96 .f32) (mid : ℕ → FVec Ideal S224x96 .f32)
    (htop : 0 < i → ∀ s : Fin 224, top (ix2 s c) = X (28 * i - 1) s.val)
    (hbot : i < 7 → ∀ s : Fin 224, bot (ix2 s c) = X (28 * i + 28) s.val)
    (hmid : ∀ k, k < 28 → ∀ s : Fin 224, mid k (ix2 s c) = X (28 * i + k) s.val) (k : ℕ) (hk : k < 30) (s : Fin 226) :
    ringRow (F := Ideal) mn (binw (F := Ideal) mn mx) co (BitVec.ofNat 32 i) top bot mid k (ix3 0 s c) = pixel mn mx co X c (28 * i + k) s.val := by
  have c1 : Scalar.cmpi .sgt (BitVec.ofNat 32 i) 0#32 = BitVec.ofBool (decide (0 < i)) := by
    revert i; intro i hi; interval_cases i <;> intros <;> rfl
  have c2 : Scalar.cmpi .slt (BitVec.ofNat 32 i) 7#32 = BitVec.ofBool (decide (i < 7)) := by
    revert i; intro i hi; interval_cases i <;> intros <;> rfl
  rcases k with _ | r
  · rw [ringRow_top, c1]
    by_cases h : 0 < i
    · refine padded_pixel mn mx co X c _ (by omega) _ (fun s => ?_) s
      rw [masked_apply, if_pos (by simpa using h), scaled_apply, htop h]; rfl
    · refine padded_border mn mx co X c _ (by omega) _ (fun s => ?_) s
      rw [masked_apply, if_neg (by simpa using h)]
  · by_cases hr : r = 28
    · subst hr
      rw [ringRow_bot, c2]
      by_cases h : i < 7
      · refine padded_pixel mn mx co X c _ (by omega) _ (fun s => ?_) s
        rw [masked_apply, if_pos (by simpa using h), scaled_apply, hbot h]
        rfl
      · refine padded_border mn mx co X c _ (by omega) _ (fun s => ?_) s
        rw [masked_apply, if_neg (by simpa using h)]
    · rw [ringRow_mid _ _ _ _ _ _ _ hr]
      refine padded_pixel mn mx co X c _ (by omega) _ (fun s => ?_) s
      rw [scaled_apply, hmid r (by omega)]
      rfl

theorem prod_apply (w : Vec Ideal S3x3x96 .f32) (dh dw : Fin 3) (off : Fin 3 → Nat) (h : S3x3x96.Slices off S1x1x96)
    (h0 : off 0 = dh.val) (h1 : off 1 = dw.val) (h2 : off 2 = 0) (t : Vec Ideal S1x224x96 .f32) (s : Fin 224) (c : Fin 96) :
    prod (F := Ideal) w off h t (ix2 s c) = t (ix3 0 s c) * w (ix3 dh dw c) := by
  unfold prod tap
  pointwise
  congr 2
  funext a
  match a with
  | 0 => exact Fin.ext h0
  | 1 => exact Fin.ext h1
  | 2 => exact Fin.ext (by show off 2 + c.val = c.val; omega)

theorem convRow_apply (w : Vec Ideal S3x3x96 .f32) (t : ℕ → ℕ → Vec Ideal S1x224x96 .f32) (s : Fin 224) (c : Fin 96) :
    convRow (F := Ideal) w t (ix4 0 0 s c) =
      t 0 0 (ix3 0 s c) * w (ix3 0 0 c) + t 0 1 (ix3 0 s c) * w (ix3 0 1 c) + t 0 2 (ix3 0 s c) * w (ix3 0 2 c)
      + t 1 0 (ix3 0 s c) * w (ix3 1 0 c) + t 1 1 (ix3 0 s c) * w (ix3 1 1 c) + t 1 2 (ix3 0 s c) * w (ix3 1 2 c)
      + t 2 0 (ix3 0 s c) * w (ix3 2 0 c) + t 2 1 (ix3 0 s c) * w (ix3 2 1 c) + t 2 2 (ix3 0 s c) * w (ix3 2 2 c) := by
  have e : ∀ Y : FVec Ideal S224x96 .f32, shapeCast S1x1x224x96 Y shapeCasts_S224x96_S1x1x224x96 (ix4 0 0 s c) = Y (ix2 s c) := by
    intro Y; pointwise
  unfold convRow
  rw [e]
  show prod (F := Ideal) w _ _ _ (ix2 s c) + prod (F := Ideal) w _ _ _ (ix2 s c) + prod (F := Ideal) w _ _ _ (ix2 s c)
    + prod (F := Ideal) w _ _ _ (ix2 s c) + prod (F := Ideal) w _ _ _ (ix2 s c) + prod (F := Ideal) w _ _ _ (ix2 s c)
    + prod (F := Ideal) w _ _ _ (ix2 s c) + prod (F := Ideal) w _ _ _ (ix2 s c) + prod (F := Ideal) w _ _ _ (ix2 s c) = _
  rw [prod_apply w 0 0 ![0, 0, 0] _ rfl rfl rfl, prod_apply w 0 1 ![0, 1, 0] _ rfl rfl rfl, prod_apply w 0 2 ![0, 2, 0] _ rfl rfl rfl,
    prod_apply w 1 0 ![1, 0, 0] _ rfl rfl rfl, prod_apply w 1 1 ![1, 1, 0] _ rfl rfl rfl, prod_apply w 1 2 ![1, 2, 0] _ rfl rfl rfl,
    prod_apply w 2 0 ![2, 0, 0] _ rfl rfl rfl, prod_apply w 2 1 ![2, 1, 0] _ rfl rfl rfl, prod_apply w 2 2 ![2, 2, 0] _ rfl rfl rfl]

theorem outBlk_apply (w : Vec Ideal S3x3x96 .f32) (P : ℕ → FVec Ideal S1x226x96 .f32) (a : Fin 1) (h : Fin 28) (s : Fin 224) (c : Fin 96)
    (Q : ℕ → ℕ → EReal) (r : ℕ) (hQ : ∀ dh dw, dh < 3 → dw < 3 → shifted (F := Ideal) (P (h.val + dh)) dw (ix3 0 s c) = Q (r + dh) (s.val + dw)) :
    outBlk (F := Ideal) w P (ix4 a h s c) = conv9 Q (fun dh dw => w (ix3 dh dw c)) r s.val := by
  refine (convRow_apply w (fun dh dw => shifted (F := Ideal) (P (h.val + dh)) dw) s c).trans ?_
  simp only [hQ 0 0 (by decide) (by decide), hQ 0 1 (by decide) (by decide), hQ 0 2 (by decide) (by decide),
    hQ 1 0 (by decide) (by decide), hQ 1 1 (by decide) (by decide), hQ 1 2 (by decide) (by decide),
    hQ 2 0 (by decide) (by decide), hQ 2 1 (by decide) (by decide), hQ 2 2 (by decide) (by decide)]
  rfl

/-- The output block of block `i` of an image, at row `h`, column `s` and channel `c`. -/
theorem blockOut_apply (mn mx : EReal) (co : Vec Ideal S8x96 .f32) (w : Vec Ideal S3x3x96 .f32) (X : ℕ → ℕ → EReal) (i : ℕ) (hi : i < 8)
    (top bot : Vec Ideal S1x1x224x96 .f32) (x : Vec Ideal S1x28x224x96 .f32) (a : Fin 1) (h : Fin 28) (s : Fin 224) (c : Fin 96)
    (htop : 0 < i → ∀ s : Fin 224, top (ix4 0 0 s c) = X (28 * i - 1) s.val)
    (hbot : i < 7 → ∀ s : Fin 224, bot (ix4 0 0 s c) = X (28 * i + 28) s.val)
    (hmid : ∀ (k : Fin 28) (s : Fin 224), x (ix4 0 k s c) = X (28 * i + k.val) s.val) :
    blockOut (F := Ideal) mn mx co w (BitVec.ofNat 32 i) top bot x (ix4 a h s c) =
      conv9 (pixel mn mx co X c) (fun dh dw => w (ix3 dh dw c)) (28 * i + h.val) s.val := by
  refine outBlk_apply w _ a h s c (pixel mn mx co X c) (28 * i + h.val) fun dh dw hh hw => ?_
  have := h.isLt
  have := s.isLt
  have hm : dw % 3 = dw := Nat.mod_eq_of_lt hw
  have key := ringRow_apply mn mx co X c i hi (haloOf top) (haloOf bot) (midOf x) htop hbot
    (fun k hk s => by
      have h2 := hmid ⟨k % 28, Nat.mod_lt k (by decide)⟩ s
      have h3 : k % 28 = k := Nat.mod_eq_of_lt hk
      refine Eq.trans (b := x (ix4 0 ⟨k % 28, Nat.mod_lt k (by decide)⟩ s c)) rfl ?_
      rw [h2]; simp only [h3]) (h.val + dh) (by omega) ⟨s.val + dw, by omega⟩
  rw [Nat.add_assoc]
  refine Eq.trans ?_ key
  unfold shifted
  congr 1
  simp only [hm]
  rfl

end Cert.KernelIdeal.Proof

end
-- ==== Proof.Final.lean ====
/-
  The kernel's result over the extended reals: every point of the second pass leaves the convolution's block of its rows.
-/
module

public import proofs.«01_k».proof.Proof.Pixel
public import proofs.«01_k».proof.Proof.Data
public import Idealize.ShloMosaic.Lib.Pipeline.ValueKit

@[expose] public section

set_option maxRecDepth 16384

noncomputable section

namespace Cert.KernelIdeal.Proof

open Cert.KernelIdeal Cert.KernelIdeal.Gen Cert.Bins
open Idealize.ShloMosaic Idealize.ShloMosaic.TcCoe
open Idealize.ShloMosaic.Pipeline (Dat)

/-- Channel `c` of image `b`; -/
def image (x : Vec Ideal S4x224x224x96 .f32) (b : Fin 4) (c : Fin 96) : ℕ → ℕ → EReal :=
  fun r s => x (ix4 b (Fin.ofNat 224 r) (Fin.ofNat 224 s) c)

/-- the whole result, from the smallest and largest element. -/
def convolved (mn mx : EReal) (x : Vec Ideal S4x224x224x96 .f32) (co : Vec Ideal S8x96 .f32) (w : Vec Ideal S3x3x96 .f32) :
    Vec Ideal S4x224x224x96 .f32 :=
  fun j => conv9 (pixel mn mx co (image x (j 0) (j 3)) (j 3)) (fun dh dw => w (ix3 dh dw (j 3))) (j 1).val (j 2).val

variable (m : (ℓ : Loc nD τ sig) → Buf (Elt Ideal) ℓ) (c : Dev nD)

/-- The three arguments. -/
abbrev argX : Vec Ideal S4x224x224x96 .f32 := m ((c : Thread nD τ).loc main_arg0)
abbrev argCo : Vec Ideal S8x96 .f32 := m ((c : Thread nD τ).loc main_arg1)
abbrev argW : Vec Ideal S3x3x96 .f32 := m ((c : Thread nD τ).loc main_arg2)

/-- The table and the weights are staged whole; -/
theorem table_block (t : Fin cfg0.N) : iblk m c 3 t = argCo m c := by
  funext y
  blk_ext [iblk, index3 t]
theorem weights_block (t : Fin cfg0.N) : iblk m c 4 t = argW m c := by
  funext y
  blk_ext [iblk, index4 t]

/-- the row above a block, -/
theorem top_block (t : Fin cfg0.N) (h : 32 ≤ t.val) (b : Fin 4) (hb : b.val = t.val % 32 / 8) (h0 : 0 < t.val % 8) (s : Fin 224) (ch : Fin 96) :
    iblk m c 1 t (ix4 0 0 s ch) = image (argX m c) b ch (28 * (t.val % 8) - 1) s.val := by
  have i1 := index1 t h
  unfold image
  blk_ext [iblk, i1]
  all_goals (simp only [Fin.val_ofNat]; omega)

/-- the row below, -/
theorem bot_block (t : Fin cfg0.N) (h : 32 ≤ t.val) (b : Fin 4) (hb : b.val = t.val % 32 / 8) (h0 : t.val % 8 < 7) (s : Fin 224) (ch : Fin 96) :
    iblk m c 2 t (ix4 0 0 s ch) = image (argX m c) b ch (28 * (t.val % 8) + 28) s.val := by
  have i1 := index2 t h
  unfold image
  blk_ext [iblk, i1]
  all_goals (simp only [Fin.val_ofNat]; omega)

/-- and the block itself, as the first pass was given it. -/
theorem mid_block (t : Fin cfg0.N) (h : t.val < 32) (b : Fin 4) (hb : b.val = t.val / 8) (k : Fin 28) (s : Fin 224) (ch : Fin 96) :
    iblk m c 0 t (ix4 0 k s ch) = image (argX m c) b ch (28 * (t.val % 8) + k.val) s.val := by
  have i1 := index0 t
  rw [if_neg (by omega), if_neg (by omega)] at i1
  unfold image
  blk_ext [iblk, i1]
  all_goals (simp only [Fin.val_ofNat]; omega)

/-- What a point of the second pass leaves. -/
theorem outAt_apply (t : Fin cfg0.N) (h : 32 ≤ t.val) (b : Fin 4) (hb : b.val = t.val % 32 / 8) (a : Fin 1) (k : Fin 28) (s : Fin 224) (ch : Fin 96) :
    outAt m c t (ix4 a k s ch) = conv9 (pixel (lo m c 31) (hi m c 31) (argCo m c) (image (argX m c) b ch) ch)
      (fun dh dw => argW m c (ix3 dh dw ch)) (28 * (t.val % 8) + k.val) s.val := by
  have hN : t.val < 64 := lt_of_lt_of_eq t.isLt N_0
  unfold outAt
  rw [(coords_eq t).2, table_block, weights_block]
  refine blockOut_apply _ _ _ _ _ _ (by omega) _ _ _ a k s ch (fun h0 s => top_block m c t h b hb h0 s ch)
    (fun h0 s => bot_block m c t h b hb h0 s ch) (fun k s => ?_)
  have e := mid_block m c ⟨(t.val - 32) % 64, mod_lt_N _⟩ (by show (t.val - 32) % 64 < 32; omega) b
    (by show b.val = (t.val - 32) % 64 / 8; omega) k s ch
  refine Eq.trans (b := iblk m c 0 ⟨(t.val - 32) % 64, mod_lt_N _⟩ (ix4 0 k s ch)) rfl (e.trans ?_)
  have e2 : (t.val - 32) % 64 % 8 = t.val % 8 := by omega
  dsimp only
  rw [e2]

/-- The result array after the last point. -/
theorem final : (dats m 0 c).arrAt 5 cfg0.N = convolved (lo m c 31) (hi m c 31) (argX m c) (argCo m c) (argW m c) := by
  refine (dats m 0 c).arrAt_eq_of_covers 5 _ (by decide +kernel) fun t hf y => ?_
  have ht : 32 ≤ t.val := by
    exact of_decide_eq_true ((flush5 t).symm.trans hf)
  have i5 := index5 t ht
  blk_simp
  have hN : t.val < 64 := lt_of_lt_of_eq t.isLt N_0
  have hy : ∀ y : S1x28x224x96.Idx, y = ix4 (y 0) (y 1) (y 2) (y 3) := fun y => by
    funext k; match k with | 0 => rfl | 1 => rfl | 2 => rfl | 3 => rfl
  have hb : t.val % 32 / 8 < 4 := by omega
  have e : (win0_5.blk t).view.emb y = (ix4 (⟨t.val % 32 / 8, hb⟩ : Fin 4)
      (⟨28 * (t.val % 8) + (y 1).val, by have h1 : (y 1).val < 28 := (y 1).isLt; omega⟩ : Fin 224) (y 2) (y 3) : S4x224x224x96.Idx) := by
    blk_ext [i5]
  show outAt m c t y = _
  refine Eq.trans (congrArg (outAt m c t) (hy y)) ((outAt_apply m c t ht ⟨_, hb⟩ rfl (y 0) (y 1) (y 2) (y 3)).trans ?_)
  rw [e]
  rfl

end Cert.KernelIdeal.Proof

end
-- ==== Proof.Extremes.lean ====
/-
  The smallest and largest element: a fold of minima is the greatest lower bound of what it folds, so the kernel's fold, block by
  block, and the reference's, over the whole array at once, are equal.
-/
module

public import proofs.«01_k».proof.Proof.Final
public import Idealize.ShloMosaic.Lib.Pointwise
public import Idealize.ShloMosaic.Lib.KernelVsHost

@[expose] public section

set_option maxRecDepth 16384

noncomputable section

namespace Cert.KernelIdeal.Proof

open Cert.KernelIdeal Cert.KernelIdeal.Gen Cert.Bins
open Idealize.ShloMosaic Idealize.ShloMosaic.TcCoe

section Folds

variable {s t u : Shape} {axes : List (Fin s.rank)}

/-- A lower bound of a host minimum over everything is a lower bound of the array; -/
theorem le_reduce (x : s.Idx → EReal) (init : u.Idx → EReal) (hi : ∀ j, init j = ⊤) (h : s.ReducesTo axes t) (hu : 0 < u.numel)
    (ht : ∀ j j' : t.Idx, j = j') (j : t.Idx) (a : EReal) :
    a ≤ Host.reduce (min : EReal → EReal → EReal) x init h hu j ↔ ∀ i, a ≤ x i := by
  rw [Host.reduce_eq_fold, Finset.le_fold_min, hi]
  exact ⟨fun g i => g.2 i (Finset.mem_filter.2 ⟨Finset.mem_univ _, ht _ _⟩), fun g => ⟨le_top, fun i _ => g i⟩⟩

/-- an upper bound of a host maximum likewise. -/
theorem reduce_le (x : s.Idx → EReal) (init : u.Idx → EReal) (hi : ∀ j, init j = ⊥) (h : s.ReducesTo axes t) (hu : 0 < u.numel)
    (ht : ∀ j j' : t.Idx, j = j') (j : t.Idx) (a : EReal) :
    Host.reduce (max : EReal → EReal → EReal) x init h hu j ≤ a ↔ ∀ i, x i ≤ a := by
  rw [Host.reduce_eq_fold, Finset.fold_max_le, hi]
  exact ⟨fun g i => g.2 i (Finset.mem_filter.2 ⟨Finset.mem_univ _, ht _ _⟩), fun g => ⟨bot_le, fun i _ => g i⟩⟩

/-- Over finitely many elements the bounds are strict too. -/
theorem bot_lt_reduce (x : s.Idx → EReal) (init : u.Idx → EReal) (hi : ∀ j, init j = ⊤) (h : s.ReducesTo axes t) (hu : 0 < u.numel)
    (j : t.Idx) (g : ∀ i, ⊥ < x i) : ⊥ < Host.reduce (min : EReal → EReal → EReal) x init h hu j := by
  rw [Host.reduce_eq_fold, Finset.lt_fold_min, hi]
  exact ⟨bot_lt_top, fun i _ => g i⟩

theorem reduce_lt_top (x : s.Idx → EReal) (init : u.Idx → EReal) (hi : ∀ j, init j = ⊥) (h : s.ReducesTo axes t) (hu : 0 < u.numel)
    (j : t.Idx) (g : ∀ i, x i < ⊤) : Host.reduce (max : EReal → EReal → EReal) x init h hu j < ⊤ := by
  rw [Host.reduce_eq_fold, Finset.fold_max_lt, hi]
  exact ⟨bot_lt_top, fun i _ => g i⟩

end Folds

theorem cast_twice (v : Vec Ideal S1x28x224x96 .f32) :
    shapeCast S1x28x224x96 (k0_pay1 v) shapeCasts_S28x224x96_S1x28x224x96 = v := by
  funext i
  unfold k0_pay1
  pointwise

theorem one_index (j j' : S1.Idx) : j = j' := by
  funext k
  match k with | 0 => exact Subsingleton.elim (α := Fin 1) _ _

/-- The lower bounds of a block's smallest element, as the kernel folds it; -/
theorem le_pay2 (v : Vec Ideal S1x28x224x96 .f32) (a : EReal) : a ≤ k0_pay2 v ↔ ∀ i, a ≤ v i := by
  have e : k0_pay2 v = Finset.fold (min : EReal → EReal → EReal) ⊤ v {i | reduces_S1x28x224x96_S1.drop i = ix1 0} := by
    unfold k0_pay2
    dsimp only
    rw [cast_twice, ← ofBits_top]
    pointwise
  rw [e, Finset.le_fold_min]
  exact ⟨fun g i => g.2 i (Finset.mem_filter.2 ⟨Finset.mem_univ _, one_index _ _⟩), fun g => ⟨le_top, fun i _ => g i⟩⟩

/-- the upper bounds of its largest; -/
theorem pay3_le (v : Vec Ideal S1x28x224x96 .f32) (a : EReal) : k0_pay3 v ≤ a ↔ ∀ i, v i ≤ a := by
  have e : k0_pay3 v = Finset.fold (max : EReal → EReal → EReal) ⊥ v {i | reduces_S1x28x224x96_S1.drop i = ix1 0} := by
    unfold k0_pay3
    dsimp only
    rw [cast_twice, ← ofBits_bot]
    pointwise
  rw [e, Finset.fold_max_le]
  exact ⟨fun g i => g.2 i (Finset.mem_filter.2 ⟨Finset.mem_univ _, one_index _ _⟩), fun g => ⟨bot_le, fun i _ => g i⟩⟩

theorem pay4_eq (v : Vec Ideal S1x28x224x96 .f32) (w : EReal) : k0_pay4 (F := Ideal) v w = min w (k0_pay2 v) := by
  unfold k0_pay4
  generalize k0_pay2 v = z
  rfl

theorem pay5_eq (v : Vec Ideal S1x28x224x96 .f32) (w : EReal) : k0_pay5 (F := Ideal) v w = max w (k0_pay3 v) := by
  unfold k0_pay5
  generalize k0_pay3 v = z
  rfl

variable (m : (ℓ : Loc nD τ sig) → Buf (Elt Ideal) ℓ) (c : Dev nD)

/-- of all blocks so far; -/
theorem le_lo (a : EReal) (n : ℕ) : a ≤ lo m c n ↔ ∀ k ≤ n, ∀ i, a ≤ xblk m c k i := by
  induction n with
  | zero =>
    rw [lo, le_pay2]
    refine ⟨fun g k hk => ?_, fun g => g 0 le_rfl⟩
    obtain rfl : k = 0 := by omega
    exact g
  | succ n ih =>
    rw [lo, pay4_eq, le_min_iff, ih, le_pay2]
    refine ⟨fun g k hk => ?_, fun g => ⟨fun k hk => g k (by omega), g _ le_rfl⟩⟩
    by_cases h : k ≤ n
    · exact g.1 k h
    · obtain rfl : k = n + 1 := by omega
      exact g.2

theorem hi_le (a : EReal) (n : ℕ) : hi m c n ≤ a ↔ ∀ k ≤ n, ∀ i, xblk m c k i ≤ a := by
  induction n with
  | zero =>
    rw [hi, pay3_le]
    refine ⟨fun g k hk => ?_, fun g => g 0 le_rfl⟩
    obtain rfl : k = 0 := by omega
    exact g
  | succ n ih =>
    rw [hi, pay5_eq, max_le_iff, ih, pay3_le]
    refine ⟨fun g k hk => ?_, fun g => ⟨fun k hk => g k (by omega), g _ le_rfl⟩⟩
    by_cases h : k ≤ n
    · exact g.1 k h
    · obtain rfl : k = n + 1 := by omega
      exact g.2

/-- A property every element of the 32 blocks has is one every element of the array has. -/
theorem all_blocks (p : EReal → Prop) : (∀ k ≤ 31, ∀ i, p (xblk m c k i)) ↔ ∀ i, p (argX m c i) := by
  have e : ∀ (k : ℕ) (h : k < 32) (i : S1x28x224x96.Idx), xblk m c k i =
      image (argX m c) ⟨k / 8, by omega⟩ (i 3) (28 * (k % 8) + (i 1).val) (i 2).val := by
    intro k h i
    have hi : i = ix4 0 (i 1) (i 2) (i 3) := by
      funext a; match a with | 0 => exact Subsingleton.elim (α := Fin 1) _ _ | 1 => rfl | 2 => rfl | 3 => rfl
    have ht : k < cfg0.N := lt_of_lt_of_eq (b := 64) (by omega) N_0.symm
    refine (congrFun (xblk_eq m c ⟨k, ht⟩) i).trans ?_
    exact (congrArg (iblk m c 0 ⟨k, ht⟩) hi).trans (mid_block m c ⟨k, ht⟩ h ⟨k / 8, by omega⟩ rfl (i 1) (i 2) (i 3))
  refine ⟨fun g i => ?_, fun g k hk i => ?_⟩
  · have h0 : (i 0).val < 4 := (i 0).isLt
    have h1 : (i 1).val < 224 := (i 1).isLt
    have h2 : (i 2).val < 224 := (i 2).isLt
    have hk : 8 * (i 0).val + (i 1).val / 28 ≤ 31 := by omega
    have q := g _ hk (ix4 0 ⟨(i 1).val % 28, by omega⟩ (i 2) (i 3))
    rw [e _ (by omega)] at q
    convert q using 2
    unfold image
    congr 1
    funext a
    match a with
    | 0 => exact Fin.ext (by show (i 0).val = (8 * (i 0).val + (i 1).val / 28) / 8; omega)
    | 1 => exact Fin.ext (by
        show (i 1).val = (28 * ((8 * (i 0).val + (i 1).val / 28) % 8) + (i 1).val % 28) % 224; omega)
    | 2 => exact Fin.ext (by show (i 2).val = (i 2).val % 224; omega)
    | 3 => rfl
  · rw [e k (by omega)]
    exact g _

/-- of the whole array. -/
theorem le_lo_all (a : EReal) : a ≤ lo m c 31 ↔ ∀ i, a ≤ argX m c i := (le_lo m c a 31).trans (all_blocks m c fun v => a ≤ v)
theorem hi_le_all (a : EReal) : hi m c 31 ≤ a ↔ ∀ i, argX m c i ≤ a := (hi_le m c a 31).trans (all_blocks m c fun v => v ≤ a)

end Cert.KernelIdeal.Proof

end
-- ==== Proof.Layers.lean ====
/-
  The reference's result as its eight layers, one for each bin, and a layer's value at an index.
-/
module

public import proofs.«01_k».proof.Proof.Gen.ReferenceIdeal.Run
public import Idealize.ShloMosaic.Lib.Pointwise
public import proofs.«01_k».proof.Proof.Bins

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.TcCoe Idealize.ShloMosaic.StableHlo

/-- The array of zeros the sums start from. -/
def zeros : Vec Ideal S4x224x224x96 .f32 :=
  broadcastInDim S4x224x224x96 ![] bcast_S_S4x224x224x96 (constant (F := Ideal) S_ .f32 0x00000000#32)

/-- One weight per channel, over the whole array; -/
def weight (w : Vec Ideal S3x3x96 .f32) (off : Fin 3 → ℕ) (h : S3x3x96.Slices off S1x1x96) : Vec Ideal S4x224x224x96 .f32 :=
  broadcastInDim S4x224x224x96 ![0, 1, 2, 3] bcast_S1x1x1x96_S4x224x224x96_0_1_2_3 (broadcastInDim S1x1x1x96 ![3] bcast_S96_S1x1x1x96_3
    (shapeCast S96 (extractStridedSlice S1x1x96 off w h) shapeCasts_S1x1x96_S96))

/-- one table row likewise. -/
def row (co : Vec Ideal S8x96 .f32) (off : Fin 2 → ℕ) (h : S8x96.Slices off S1x96) : Vec Ideal S4x224x224x96 .f32 :=
  broadcastInDim S4x224x224x96 ![0, 1, 2, 3] bcast_S1x1x1x96_S4x224x224x96_0_1_2_3 (broadcastInDim S1x1x1x96 ![3] bcast_S96_S1x1x1x96_3
    (shapeCast S96 (extractStridedSlice S1x96 off co h) shapeCasts_S1x96_S96))

/-- The shifted padded array times its weight, -/
def tap (P : Vec Ideal S4x226x226x96 .f32) (w : Vec Ideal S3x3x96 .f32) (off : Fin 4 → ℕ) (h : S4x226x226x96.Slices off S4x224x224x96)
    (off' : Fin 3 → ℕ) (h' : S3x3x96.Slices off' S1x1x96) : FVec Ideal S4x224x224x96 .f32 :=
  mulf (extractStridedSlice S4x224x224x96 off P h) (weight w off' h')

/-- and the nine of them added: the convolution of one layer. -/
def layer (P : Vec Ideal S4x226x226x96 .f32) (w : Vec Ideal S3x3x96 .f32) : FVec Ideal S4x224x224x96 .f32 :=
  addf (addf (addf (addf (addf (addf (addf (addf (addf zeros
    (tap P w ![0, 0, 0, 0] slices_S4x226x226x96_S4x224x224x96_0_0_0_0 ![0, 0, 0] slices_S3x3x96_S1x1x96_0_0_0))
    (tap P w ![0, 0, 1, 0] slices_S4x226x226x96_S4x224x224x96_0_0_1_0 ![0, 1, 0] slices_S3x3x96_S1x1x96_0_1_0))
    (tap P w ![0, 0, 2, 0] slices_S4x226x226x96_S4x224x224x96_0_0_2_0 ![0, 2, 0] slices_S3x3x96_S1x1x96_0_2_0))
    (tap P w ![0, 1, 0, 0] slices_S4x226x226x96_S4x224x224x96_0_1_0_0 ![1, 0, 0] slices_S3x3x96_S1x1x96_1_0_0))
    (tap P w ![0, 1, 1, 0] slices_S4x226x226x96_S4x224x224x96_0_1_1_0 ![1, 1, 0] slices_S3x3x96_S1x1x96_1_1_0))
    (tap P w ![0, 1, 2, 0] slices_S4x226x226x96_S4x224x224x96_0_1_2_0 ![1, 2, 0] slices_S3x3x96_S1x1x96_1_2_0))
    (tap P w ![0, 2, 0, 0] slices_S4x226x226x96_S4x224x224x96_0_2_0_0 ![2, 0, 0] slices_S3x3x96_S1x1x96_2_0_0))
    (tap P w ![0, 2, 1, 0] slices_S4x226x226x96_S4x224x224x96_0_2_1_0 ![2, 1, 0] slices_S3x3x96_S1x1x96_2_1_0))
    (tap P w ![0, 2, 2, 0] slices_S4x226x226x96_S4x224x224x96_0_2_2_0 ![2, 2, 0] slices_S3x3x96_S1x1x96_2_2_0)

/-- The elements whose bin is `k`, scaled, with a border of zeros. -/
def padded (x : Vec Ideal S4x224x224x96 .f32) (bins : IVec S4x224x224x96 32) (k : BitVec 32) (co : Vec Ideal S8x96 .f32)
    (off : Fin 2 → ℕ) (h : S8x96.Slices off S1x96) : Vec Ideal S4x226x226x96 .f32 :=
  pad S4x226x226x96 ![0, 1, 1, 0] ![0, 1, 1, 0] ![0, 0, 0, 0]
    (mulf (F := Ideal) (mulf x (uitofp .f32 (cmpi .eq bins (broadcastInDim S4x224x224x96 ![] bcast_S_S4x224x224x96 (constantI S_ 32 k)))))
      (row co off h)) (sitofp (F := Ideal) .f32 (constantI S_ 32 0#32)) pads_S4x224x224x96_S4x226x226x96_000_110_110_000 h_S_

variable (V : Valuation τ sig (Elt Ideal))

/-- The reference's arguments. -/
def refX : Vec Ideal S4x224x224x96 .f32 := V (Proc.devRef .tc main_arg0)
def refCo : Vec Ideal S8x96 .f32 := V (Proc.devRef .tc main_arg1)
def refW : Vec Ideal S3x3x96 .f32 := V (Proc.devRef .tc main_arg2)

theorem v23_eq : res_main_v23 V = padded (refX V) (res_main_v12 V) 0#32 (refCo V) ![0, 0] slices_S8x96_S1x96_0_0 := rfl
theorem v98_eq : res_main_v98 V = padded (refX V) (res_main_v12 V) 1#32 (refCo V) ![1, 0] slices_S8x96_S1x96_1_0 := rfl
theorem v173_eq : res_main_v173 V = padded (refX V) (res_main_v12 V) 2#32 (refCo V) ![2, 0] slices_S8x96_S1x96_2_0 := rfl
theorem v248_eq : res_main_v248 V = padded (refX V) (res_main_v12 V) 3#32 (refCo V) ![3, 0] slices_S8x96_S1x96_3_0 := rfl
theorem v323_eq : res_main_v323 V = padded (refX V) (res_main_v12 V) 4#32 (refCo V) ![4, 0] slices_S8x96_S1x96_4_0 := rfl
theorem v398_eq : res_main_v398 V = padded (refX V) (res_main_v12 V) 5#32 (refCo V) ![5, 0] slices_S8x96_S1x96_5_0 := rfl
theorem v473_eq : res_main_v473 V = padded (refX V) (res_main_v12 V) 6#32 (refCo V) ![6, 0] slices_S8x96_S1x96_6_0 := rfl
theorem v548_eq : res_main_v548 V = padded (refX V) (res_main_v12 V) 7#32 (refCo V) ![7, 0] slices_S8x96_S1x96_7_0 := rfl

theorem v163_eq : res_main_v163 V = addf (F := Ideal) (addf zeros (layer (res_main_v23 V) (refW V))) (layer (res_main_v98 V) (refW V)) := rfl
theorem v313_eq : res_main_v313 V = addf (F := Ideal) (addf (res_main_v163 V) (layer (res_main_v173 V) (refW V))) (layer (res_main_v248 V) (refW V)) := rfl
theorem v463_eq : res_main_v463 V = addf (F := Ideal) (addf (res_main_v313 V) (layer (res_main_v323 V) (refW V))) (layer (res_main_v398 V) (refW V)) := rfl
theorem v613_eq : res_main_v613 V = addf (F := Ideal) (addf (res_main_v463 V) (layer (res_main_v473 V) (refW V))) (layer (res_main_v548 V) (refW V)) := rfl

theorem zeros_apply (i : S4x224x224x96.Idx) : zeros i = 0 := by
  unfold zeros
  pointwise

theorem weight_apply (w : Vec Ideal S3x3x96 .f32) (dh dw : Fin 3) (h : S3x3x96.Slices ![dh.val, dw.val, 0] S1x1x96)
    (b : Fin 4) (r s : Fin 224) (ch : Fin 96) : weight w ![dh.val, dw.val, 0] h (ix4 b r s ch) = w (ix3 dh dw ch) := by
  unfold weight
  pointwise

theorem row_apply (co : Vec Ideal S8x96 .f32) (k : Fin 8) (h : S8x96.Slices ![k.val, 0] S1x96)
    (b : Fin 4) (r s : Fin 224) (ch : Fin 96) : row co ![k.val, 0] h (ix4 b r s ch) = co (ix2 k ch) := by
  unfold row
  pointwise

theorem flag (u n : BitVec 32) : FloatOps.uitofp (F := Ideal) .f32 (IntOp.cmpi .eq u n) = if u = n then (1 : EReal) else 0 := by
  by_cases h : u = n
  · rw [if_pos h, h]
    have e : IntOp.cmpi .eq n n = 1#1 := by simp [IntOp.cmpi]
    rw [e]
    show (((1#1).toNat : ℝ) : EReal) = 1
    simp
  · rw [if_neg h]
    have e : IntOp.cmpi .eq u n = 0#1 := by
      show BitVec.ofBool (u == n) = 0#1
      rw [beq_false_of_ne h]
      rfl
    rw [e]
    show (((0#1).toNat : ℝ) : EReal) = 0
    simp

theorem number (n : BitVec 32) (k : ℤ) (h : n.toInt = k) : FloatOps.sitofp (F := Ideal) .f32 n = ((k : ℝ) : EReal) := by
  subst h
  rfl

/-- A layer's padded array at an index: the element if its bin is the layer's, times the table entry, and zero on the border. -/
theorem padded_apply (x : Vec Ideal S4x224x224x96 .f32) (bins : IVec S4x224x224x96 32) (n : BitVec 32) (co : Vec Ideal S8x96 .f32)
    (k : Fin 8) (h : S8x96.Slices ![k.val, 0] S1x96) (b : Fin 4) (r s : Fin 226) (ch : Fin 96) :
    padded x bins n co ![k.val, 0] h (ix4 b r s ch) =
      if (1 ≤ r.val ∧ r.val ≤ 224) ∧ 1 ≤ s.val ∧ s.val ≤ 224 then
        x (ix4 b (Fin.ofNat 224 (r.val - 1)) (Fin.ofNat 224 (s.val - 1)) ch)
          * (if bins (ix4 b (Fin.ofNat 224 (r.val - 1)) (Fin.ofNat 224 (s.val - 1)) ch) = n then 1 else 0) * co (ix2 k ch)
      else 0 := by
  unfold padded
  pointwise
  by_cases hc : (1 ≤ r.val ∧ r.val ≤ 224) ∧ 1 ≤ s.val ∧ s.val ≤ 224
  · have hr : r.val - 1 < 224 := by omega
    have hs : s.val - 1 < 224 := by omega
    have er : (⟨r.val - 1, hr⟩ : Fin 224) = Fin.ofNat 224 (r.val - 1) := Fin.ext (Nat.mod_eq_of_lt hr).symm
    have es : (⟨s.val - 1, hs⟩ : Fin 224) = Fin.ofNat 224 (s.val - 1) := Fin.ext (Nat.mod_eq_of_lt hs).symm
    rw [dif_pos ⟨⟨hc.1.1, hr⟩, hc.2.1, hs⟩, if_pos hc, er, es, flag, row_apply]
  · rw [dif_neg (by omega), if_neg hc, number _ 0 rfl]
    simp

theorem tap_apply (P : Vec Ideal S4x226x226x96 .f32) (w : Vec Ideal S3x3x96 .f32) (dh dw : Fin 3)
    (h : S4x226x226x96.Slices ![0, dh.val, dw.val, 0] S4x224x224x96) (h' : S3x3x96.Slices ![dh.val, dw.val, 0] S1x1x96)
    (b : Fin 4) (r s : Fin 224) (ch : Fin 96) : tap P w ![0, dh.val, dw.val, 0] h ![dh.val, dw.val, 0] h' (ix4 b r s ch)
      = P (ix4 b (Fin.ofNat 226 (r.val + dh.val)) (Fin.ofNat 226 (s.val + dw.val)) ch) * w (ix3 dh dw ch) := by
  unfold tap
  rw [← weight_apply w dh dw h' b r s ch]
  generalize weight w _ _ = W
  pointwise
  have er : ∀ h, (⟨dh.val + r.val, h⟩ : Fin 226) = Fin.ofNat 226 (r.val + dh.val) := fun h =>
    Fin.ext (by show dh.val + r.val = (r.val + dh.val) % 226; omega)
  have es : ∀ h, (⟨dw.val + s.val, h⟩ : Fin 226) = Fin.ofNat 226 (s.val + dw.val) := fun h =>
    Fin.ext (by show dw.val + s.val = (s.val + dw.val) % 226; omega)
  rw [er, es]

theorem layer_apply (P : Vec Ideal S4x226x226x96 .f32) (w : Vec Ideal S3x3x96 .f32) (b : Fin 4) (r s : Fin 224) (ch : Fin 96) :
    layer P w (ix4 b r s ch) = ∑ dh : Fin 3, ∑ dw : Fin 3,
      P (ix4 b (Fin.ofNat 226 (r.val + dh.val)) (Fin.ofNat 226 (s.val + dw.val)) ch) * w (ix3 dh dw ch) := by
  have t := fun dh dw h h' => tap_apply P w dh dw h h' b r s ch
  simp only [Fin.sum_univ_three]
  rw [← t 0 0 slices_S4x226x226x96_S4x224x224x96_0_0_0_0 slices_S3x3x96_S1x1x96_0_0_0,
    ← t 0 1 slices_S4x226x226x96_S4x224x224x96_0_0_1_0 slices_S3x3x96_S1x1x96_0_1_0,
    ← t 0 2 slices_S4x226x226x96_S4x224x224x96_0_0_2_0 slices_S3x3x96_S1x1x96_0_2_0,
    ← t 1 0 slices_S4x226x226x96_S4x224x224x96_0_1_0_0 slices_S3x3x96_S1x1x96_1_0_0,
    ← t 1 1 slices_S4x226x226x96_S4x224x224x96_0_1_1_0 slices_S3x3x96_S1x1x96_1_1_0,
    ← t 1 2 slices_S4x226x226x96_S4x224x224x96_0_1_2_0 slices_S3x3x96_S1x1x96_1_2_0,
    ← t 2 0 slices_S4x226x226x96_S4x224x224x96_0_2_0_0 slices_S3x3x96_S1x1x96_2_0_0,
    ← t 2 1 slices_S4x226x226x96_S4x224x224x96_0_2_1_0 slices_S3x3x96_S1x1x96_2_1_0,
    ← t 2 2 slices_S4x226x226x96_S4x224x224x96_0_2_2_0 slices_S3x3x96_S1x1x96_2_2_0]
  have a : ∀ (x y : FVec Ideal S4x224x224x96 .f32) i, addf x y i = (x i + y i : EReal) := fun _ _ _ => rfl
  unfold layer
  simp only [a, zeros_apply, zero_add, add_assoc]
  rfl

/-- The bins, from the smallest and the largest element. -/
def binsOf (mn mx : Vec Ideal S_ .f32) (x : Vec Ideal S4x224x224x96 .f32) : IVec S4x224x224x96 32 :=
  fptosi 32 (minimumf (F := Ideal) (broadcastInDim S4x224x224x96 ![] bcast_S_S4x224x224x96 (sitofp .f32 (constantI S_ 32 7#32)))
    (maximumf (broadcastInDim S4x224x224x96 ![] bcast_S_S4x224x224x96 (sitofp .f32 (constantI S_ 32 0#32)))
      (Host.floor (mulf (Host.divf (subf x (broadcastInDim S4x224x224x96 ![] bcast_S_S4x224x224x96 mn))
        (broadcastInDim S4x224x224x96 ![] bcast_S_S4x224x224x96 (addf (subf mx mn) (constant S_ .f32 0x322BCC77#32))))
        (broadcastInDim S4x224x224x96 ![] bcast_S_S4x224x224x96 (constant S_ .f32 0x41000000#32))))))

/-- The reference's smallest and largest element. -/
def refMin : Vec Ideal S_ .f32 :=
  Host.reduce (min : EReal → EReal → EReal) (refX V) (constant (F := Ideal) S_ .f32 0x7F800000#32) reducesTo_S4x224x224x96_S_d0_1_2_3 h_S_
def refMax : Vec Ideal S_ .f32 :=
  Host.reduce (max : EReal → EReal → EReal) (refX V) (constant (F := Ideal) S_ .f32 0xFF800000#32) reducesTo_S4x224x224x96_S_d0_1_2_3 h_S_

theorem v0_eq : res_main_v0 V = refMin V := rfl
theorem v12_eq : res_main_v12 V = binsOf (refMin V) (refMax V) (refX V) := rfl

theorem binsOf_apply (mn mx : Vec Ideal S_ .f32) (x : Vec Ideal S4x224x224x96 .f32) (i : S4x224x224x96.Idx) :
    binsOf mn mx x i = Cert.Bins.binAt (mn ix0) (mx ix0) (Ideal.ofBits .f32 0x322BCC77#32) (x i) := by
  unfold binsOf Cert.Bins.binAt
  pointwise
  rw [number _ 7 rfl, number _ 0 rfl, Cert.Bins.ofBits_eight]
  simp only [Int.cast_ofNat, Int.cast_zero]
  rfl

end Cert.ReferenceIdeal.Proof

end
-- ==== Proof.Equal.lean ====
/-
  The two results are equal: at every place exactly one of the reference's eight layers is not zero, and it holds the kernel's product.
-/
module

public import proofs.«01_k».proof.Proof.Extremes
public import proofs.«01_k».proof.Proof.Layers

@[expose] public section

set_option maxRecDepth 16384

noncomputable section

namespace Cert.ReferenceIdeal.Proof

open Cert.ReferenceIdeal Cert.ReferenceIdeal.Gen Cert.ReferenceIdeal.Value Cert.Bins
open Cert.KernelIdeal.Proof (conv9 pixel chosen image convolved eps le_reduce reduce_le bot_lt_reduce reduce_lt_top)
open Idealize.ShloMosaic Idealize.ShloMosaic.TcCoe Idealize.ShloMosaic.StableHlo

theorem conv9_sum (P : ℕ → ℕ → EReal) (w : Fin 3 → Fin 3 → EReal) (r s : ℕ) :
    conv9 P w r s = ∑ dh : Fin 3, ∑ dw : Fin 3, P (r + dh.val) (s + dw.val) * w dh dw := by
  simp only [Fin.sum_univ_three, conv9, add_assoc]
  rfl

theorem row_slices : ∀ k : Fin 8, S8x96.Slices ![k.val, 0] S1x96 := by decide

section Values

variable (V : Valuation τ sig (Elt Ideal))

/-- The padded array of layer `k`. -/
def pads (k : Fin 8) : Vec Ideal S4x226x226x96 .f32 :=
  padded (refX V) (binsOf (refMin V) (refMax V) (refX V)) (BitVec.ofNat 32 k.val) (refCo V) ![k.val, 0] (row_slices k)

/-- The reference's result as one sum over the layers. -/
theorem result_sum (i : S4x224x224x96.Idx) : res_main_v613 V i = ∑ k : Fin 8, (layer (pads V k) (refW V) i : EReal) := by
  have a : ∀ (x y : FVec Ideal S4x224x224x96 .f32) i, addf x y i = (x i + y i : EReal) := fun _ _ _ => rfl
  rw [v613_eq, v463_eq, v313_eq, v163_eq, v23_eq, v98_eq, v173_eq, v248_eq, v323_eq, v398_eq, v473_eq, v548_eq, v12_eq,
    Fin.sum_univ_eight]
  simp only [a, zeros_apply, zero_add]
  rfl

theorem one_place (j j' : S_.Idx) : j = j' := by
  funext k
  exact k.elim0

theorem le_refMin (a : EReal) : a ≤ refMin V ix0 ↔ ∀ i, a ≤ refX V i := le_reduce _ _ (fun _ => ofBits_top) _ _ one_place _ a
theorem refMax_le (a : EReal) : refMax V ix0 ≤ a ↔ ∀ i, refX V i ≤ a := reduce_le _ _ (fun _ => ofBits_bot) _ _ one_place _ a

/-- Of a finite array both extremes are real, the smallest not above the largest. -/
theorem extremes (hx : ∀ i, ⊥ < refX V i ∧ refX V i < ⊤) :
    ∃ a b : ℝ, a ≤ b ∧ refMin V ix0 = (a : EReal) ∧ refMax V ix0 = (b : EReal) := by
  have l := (le_refMin V _).1 le_rfl (ix4 0 0 0 0)
  have u := (refMax_le V _).1 le_rfl (ix4 0 0 0 0)
  have h0 := hx (ix4 0 0 0 0)
  have l' : ⊥ < refMin V ix0 := bot_lt_reduce _ _ (fun _ => ofBits_top) _ _ _ fun i => (hx i).1
  have u' : refMax V ix0 < ⊤ := reduce_lt_top _ _ (fun _ => ofBits_bot) _ _ _ fun i => (hx i).2
  have e1 := EReal.coe_toReal (lt_of_le_of_lt l h0.2).ne l'.ne'
  have e2 := EReal.coe_toReal u'.ne (lt_of_lt_of_le h0.1 u).ne'
  refine ⟨_, _, ?_, e1.symm, e2.symm⟩
  have q := l.trans u
  rw [← e1, ← e2] at q
  exact EReal.coe_le_coe_iff.1 q

/-- At every place one layer holds the kernel's product, the others zero. -/
theorem one_layer (hx : ∀ i, ⊥ < refX V i ∧ refX V i < ⊤) (b : Fin 4) (r s : Fin 226) (ch : Fin 96) :
    ∃ n : Fin 8, ∀ k : Fin 8, pads V k (ix4 b r s ch) =
      if k = n then pixel (refMin V ix0) (refMax V ix0) (refCo V) (image (refX V) b ch) ch r.val s.val else 0 := by
  obtain ⟨A, B, hAB, hA, hB⟩ := extremes V hx
  obtain ⟨ε, hε, he⟩ := ofBits_small
  unfold pads pixel
  by_cases hc : (1 ≤ r.val ∧ r.val ≤ 224) ∧ 1 ≤ s.val ∧ s.val ≤ 224
  · have hv := hx (ix4 b (Fin.ofNat 224 (r.val - 1)) (Fin.ofNat 224 (s.val - 1)) ch)
    obtain ⟨v, ev⟩ : ∃ v : ℝ, refX V (ix4 b (Fin.ofNat 224 (r.val - 1)) (Fin.ofNat 224 (s.val - 1)) ch) = (v : EReal) :=
      ⟨_, (EReal.coe_toReal hv.2.ne hv.1.ne').symm⟩
    obtain ⟨n, hn, hb, hj⟩ := bin_spec A B ε v hAB hε
    refine ⟨⟨n, by omega⟩, fun k => ?_⟩
    rw [padded_apply, if_pos hc, if_pos hc, binsOf_apply, hA, hB, he, ev, hb]
    have hp : chosen A B (refCo V) ch v = refCo V (ix2 ⟨n, by omega⟩ ch) := by
      unfold chosen
      rw [eps, he, pick_eq _ _ _ n 7 hn hj]
      exact congrArg (fun k : Fin 8 => refCo V (ix2 k ch)) (Fin.ext (Nat.mod_eq_of_lt (by omega)) : Fin.ofNat 8 n = ⟨n, _⟩)
    have hi : image (refX V) b ch (r.val - 1) (s.val - 1) = (v : EReal) := ev
    by_cases hk : k = ⟨n, by omega⟩
    · subst hk
      rw [if_pos rfl, if_pos rfl, hi, hp, mul_one]
    · rw [if_neg hk, if_neg, mul_zero, zero_mul]
      intro g
      have := congrArg BitVec.toNat g
      rw [BitVec.toNat_ofNat, BitVec.toNat_ofNat, Nat.mod_eq_of_lt (by omega), Nat.mod_eq_of_lt (by have := k.isLt; omega)] at this
      exact hk (Fin.ext this.symm)
  · refine ⟨0, fun k => ?_⟩
    rw [padded_apply, if_neg hc, if_neg hc, ite_self]

/-- The reference's result is the kernel's convolution. -/
theorem result_eq (hx : ∀ i, ⊥ < refX V i ∧ refX V i < ⊤) :
    res_main_v613 V = convolved (refMin V ix0) (refMax V ix0) (refX V) (refCo V) (refW V) := by
  funext i
  have hi : i = ix4 (i 0) (i 1) (i 2) (i 3) := by
    funext a; match a with | 0 => rfl | 1 => rfl | 2 => rfl | 3 => rfl
  refine (result_sum V i).trans ?_
  unfold convolved
  rw [conv9_sum]
  have e : ∀ k, (layer (pads V k) (refW V) i : EReal) = ∑ dh : Fin 3, ∑ dw : Fin 3,
      pads V k (ix4 (i 0) (Fin.ofNat 226 ((i 1).val + dh.val)) (Fin.ofNat 226 ((i 2).val + dw.val)) (i 3)) * refW V (ix3 dh dw (i 3)) :=
    fun k => (congrArg (layer (pads V k) (refW V)) hi).trans (layer_apply _ _ _ _ _ _)
  refine (Finset.sum_congr rfl fun k _ => e k).trans (Finset.sum_comm.trans ?_)
  refine Finset.sum_congr rfl fun dh _ => ?_
  refine Finset.sum_comm.trans ?_
  refine Finset.sum_congr rfl fun dw _ => ?_
  obtain ⟨n, hn⟩ := one_layer V hx (i 0) (Fin.ofNat 226 ((i 1).val + dh.val)) (Fin.ofNat 226 ((i 2).val + dw.val)) (i 3)
  have h1 : (i 1).val < 224 := (i 1).isLt
  have h2 : (i 2).val < 224 := (i 2).isLt
  simp only [hn, ite_mul, zero_mul, Finset.sum_ite_eq', Finset.sum_ite_eq, Finset.mem_univ, if_true]
  rw [show (Fin.ofNat 226 ((i 1).val + dh.val)).val = (i 1).val + dh.val from Nat.mod_eq_of_lt (by omega),
    show (Fin.ofNat 226 ((i 2).val + dw.val)).val = (i 2).val + dw.val from Nat.mod_eq_of_lt (by omega)]

end Values

end Cert.ReferenceIdeal.Proof

end
-- ==== Proof.Pair.lean ====
/-
  The kernel and the reference, run from memories with the same arguments, end with the same result when every entry of `x` is finite.
-/
module

public import proofs.«01_k».proof.Defs
public import proofs.«01_k».proof.Proof.Equal
public import proofs.«01_k».proof.Proof.Run
public import Idealize.ShloMosaic.Lib.ReduceAll

@[expose] public section

set_option maxRecDepth 16384

noncomputable section

namespace Cert.Proof

open Idealize.ShloMosaic Idealize.ShloMosaic.TcCoe Idealize.ShloMosaic.StableHlo Idealize.SL.Sem
open Cert.KernelIdeal.Proof (lo hi argX argCo argW convolved)
open Cert.ReferenceIdeal.Proof (refX refCo refW refMin refMax)

theorem pre_facts : Cert.Pre_finite_input.Facts := ⟨by decide, by decide, by decide⟩

theorem lt_of_cmpf (a b : EReal) (h : FloatOps.cmpf (F := Ideal) (φ := .f32) .olt a b = 1#1) : a < b := by
  by_contra g
  have e : FloatOps.cmpf (F := Ideal) (φ := .f32) .olt a b = BitVec.ofBool (decide (a < b)) := rfl
  rw [e, decide_eq_false g] at h
  exact absurd h (by decide)

/-- The precondition read back: every entry lies strictly between the infinities. -/
theorem finite_of_pre [Cert.Pre_finite_input.Facts] (x : FVec Ideal Cert.Pre_finite_input.S4x224x224x96 .f32) (co w)
    (h : Cert.Pre_finite_input.fn (F := Ideal) x co w = fun _ => 1#1) (i : Cert.Pre_finite_input.S4x224x224x96.Idx) :
    ⊥ < x i ∧ x i < ⊤ := by
  have : Subsingleton Cert.Pre_finite_input.S_.Idx := ⟨fun a b => funext fun k => k.elim0⟩
  have h0 := congrFun h ix0
  dsimp only [Cert.Pre_finite_input.fn] at h0
  have q := Host.reduce_andi_all _ _ _ _ _ h0 i
  have l : max (x i) (-(x i)) < Ideal.ofBits .f32 0x7F800000#32 := lt_of_cmpf _ _ q
  rw [Cert.Bins.ofBits_top, max_lt_iff] at l
  refine ⟨?_, l.1⟩
  rw [bot_lt_iff_ne_bot]
  intro g
  rw [g] at l
  exact absurd l.2 (by simp)

section Results

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

/-- The kernel's smallest and largest element are the reference's. -/
theorem lo_eq (hX : refX V = argX m c) : lo m c 31 = refMin V ix0 :=
  eq_of_forall_le_iff fun a => (Cert.KernelIdeal.Proof.le_lo_all m c a).trans (by rw [Cert.ReferenceIdeal.Proof.le_refMin, hX])

theorem hi_eq (hX : refX V = argX m c) : hi m c 31 = refMax V ix0 :=
  eq_of_forall_ge_iff fun a => (Cert.KernelIdeal.Proof.hi_le_all m c a).trans (by rw [Cert.ReferenceIdeal.Proof.refMax_le, hX])

theorem results_eq (hX : refX V = argX m c) (hC : refCo V = argCo m c) (hW : refW V = argW m c) (hx : ∀ i, ⊥ < argX m c i ∧ argX m c i < ⊤) :
    Cert.ReferenceIdeal.Value.res_main_v613 V = (Cert.KernelIdeal.Proof.dats m 0 c).arrAt 5 (Cert.KernelIdeal.cfg0).N := by
  rw [Cert.ReferenceIdeal.Proof.result_eq V (by rw [hX]; exact hx), Cert.KernelIdeal.Proof.final, lo_eq m c V hX, hi_eq m c V hX, hX, hC, hW]

end Results

theorem same_result : Cert.algebraic_KernelIdeal_ReferenceIdeal_pre_finite_input (hKernelIdeal := Cert.KernelIdeal.Gen.facts)
    (hReferenceIdeal := Cert.ReferenceIdeal.Gen.facts) (hPre_finite_input := pre_facts) := fun m g m' g' hp ha =>
  ⟨fun c => (Cert.KernelIdeal.Proof.dats m 0 c).arrAt 5 (Cert.KernelIdeal.cfg0).N,
    (θ_run Cert.KernelIdeal.defs _ _).mono (fun _ h => h.1) (Cert.KernelIdeal.Proof.run (F := Ideal) m g),
    (θ_run Cert.ReferenceIdeal.defs _ _).mono (fun _ h c => ⟨(h c).1.trans (results_eq m c (launchContents m' c) (ha c).1 (ha c).2.1 (ha c).2.2
      (letI := pre_facts; finite_of_pre _ _ _ (hp c))), (h c).2⟩) (Cert.ReferenceIdeal.Value.run (F := Ideal) m' g')⟩

end Cert.Proof

end
-- ==== Proof.lean ====
/-
  The certificate's claim, assembled: the frames of the kernel as printed, of its idealization and of the reference, and the equality
  of the last two's results.
-/
module

public import proofs.«01_k».proof.Defs
public import proofs.«01_k».proof.Proof.Same
public import proofs.«01_k».proof.Proof.Pair
public import proofs.«01_k».proof.Proof.Gen.ReferenceIdeal.Run

@[expose] public section

noncomputable section

namespace Cert.Proof

open Idealize.ShloMosaic Idealize.SL.Sem

theorem frame_kernel : Cert.quiescent_Kernel (hKernel := Cert.Kernel.Gen.facts) :=
  fun m g _ => Cert.KernelIdeal.Proof.frame_printed (F := Bits) m g

theorem frame_ideal : Cert.quiescent_KernelIdeal (hKernelIdeal := Cert.KernelIdeal.Gen.facts) :=
  fun m g _ => Cert.KernelIdeal.Proof.frame (F := Ideal) m g

/-- The reference runs on the host alone; it declares no semaphore. -/
theorem frame_reference : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

/-- A frame of every memory is one of the memories the precondition admits. -/
theorem frame_ideal_pre : Cert.quiescent_KernelIdeal_pre_finite_input (hKernelIdeal := Cert.KernelIdeal.Gen.facts)
    (hPre_finite_input := pre_facts) := fun m g _ => frame_ideal m g trivial

theorem frame_reference_pre : Cert.quiescent_ReferenceIdeal_pre_finite_input (hReferenceIdeal := Cert.ReferenceIdeal.Gen.facts)
    (hPre_finite_input := pre_facts) := fun m g _ => frame_reference m g trivial

theorem claim : Cert.Claim :=
  ⟨Cert.Kernel.Gen.facts, Cert.KernelIdeal.Gen.facts, Cert.ReferenceIdeal.Gen.facts, pre_facts, frame_kernel, frame_ideal, frame_ideal_pre,
    frame_reference, frame_reference_pre, trivial, same_result⟩

end Cert.Proof

end
